-- ==== Defs.lean ====
def Pre_Kernel [hPre_groups : Cert.Pre_groups.Facts] (m : (ℓ : Loc Cert.Kernel.nD Cert.Kernel.τ Cert.Kernel.sig) → Buf (Elt Bits) ℓ) : Prop :=
  ∀ c : Dev Cert.Kernel.nD,
    (Cert.Pre_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups : Cert.Pre_groups.Facts] (m : (ℓ : Loc Cert.KernelIdeal.nD Cert.KernelIdeal.τ Cert.KernelIdeal.sig) → Buf (Elt Ideal) ℓ) : Prop :=
  ∀ c : Dev Cert.KernelIdeal.nD,
    (Cert.Pre_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups : Cert.Pre_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups : Cert.Pre_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S1792x2x128 Cert.KernelIdeal.S1792x1x128
  ∧ IdealRules.bf16_pair.BufferStatement Cert.KernelIdeal.S8256x2x128 Cert.KernelIdeal.S8256x1x128
  ∧ IdealRules.bf16_pair.HalfStatement Cert.KernelIdeal.S112x128
  ∧ IdealRules.bf16_pair.Statement Cert.KernelIdeal.S112x2x128 Cert.KernelIdeal.S112x1x128
  ∧ IdealRules.bf16_pair.HalfStatement Cert.KernelIdeal.S8256x128
  ∧ IdealRules.bf16_pair.Statement Cert.KernelIdeal.S8256x2x128 Cert.KernelIdeal.S8256x1x128
  ∧ IdealRules.bf16_pair.Statement Cert.KernelIdeal.S8x2x128 Cert.KernelIdeal.S8x1x128
  ∧ IdealRules.bf16_pair.Statement Cert.KernelIdeal.S512x2x128 Cert.KernelIdeal.S512x1x128
  ∧ IdealRules.bf16_pair.Statement Cert.KernelIdeal.S1024x128 Cert.KernelIdeal.S512x128
  ∧ IdealRules.truncf_extf.Statement Cert.KernelIdeal.S128x128 .f32 .bf16
  ∧ IdealRules.truncf_extf.Statement Cert.KernelIdeal.S128x256 .f32 .bf16

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups : Cert.Pre_groups.Facts) (hPre_finite : Cert.Pre_finite.Facts),
    quiescent_Kernel (hKernel := hKernel) (hPre_groups := hPre_groups)
    ∧ quiescent_KernelIdeal (hKernelIdeal := hKernelIdeal) (hPre_groups := hPre_groups)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x1x14336 : Shape := ⟨3, ![128, 1, 14336]⟩
abbrev S1792x3584 : Shape := ⟨2, ![1792, 3584]⟩
abbrev S112x3584 : Shape := ⟨2, ![112, 3584]⟩
abbrev S56x3584 : Shape := ⟨2, ![56, 3584]⟩
abbrev S14336 : Shape := ⟨1, ![14336]⟩
abbrev S_ : Shape := ⟨0, ![]⟩

class Facts : Prop where
  bcast_S_S14336 : S_.BroadcastsInDim S14336 (![] : Fin 0 → Fin S14336.rank)
  reducesTo_S14336_S_d0 : S14336.ReducesTo [0] S_
  h_S_ : 0 < S_.numel
  bcast_S_S128x1x14336 : S_.BroadcastsInDim S128x1x14336 (![] : Fin 0 → Fin S128x1x14336.rank)
  reducesTo_S128x1x14336_S_d0_1_2 : S128x1x14336.ReducesTo [0, 1, 2] S_
  bcast_S_S112x3584 : S_.BroadcastsInDim S112x3584 (![] : Fin 0 → Fin S112x3584.rank)
  reducesTo_S112x3584_S_d0_1 : S112x3584.ReducesTo [0, 1] S_

variable [Facts]

def fn {F : FTy → Type} [FloatOps F] (main_arg0 : FVec F S128x1x14336 .bf16) (main_arg1 : IVec S1792x3584 32) (main_arg2 : FVec F S112x3584 .bf16) (main_arg3 : IVec S56x3584 8) (main_arg4 : IVec S14336 32) : IVec S_ 1 :=
  let main_c : IVec S_ 32 := constantI S_ 32 0#32
  let main_v0 : IVec S14336 32 := broadcastInDim S14336 ![] bcast_S_S14336 main_c
  let main_v1 : IVec S14336 1 := cmpi .sge main_arg4 main_v0
  let main_c_0 : IVec S_ 32 := constantI S_ 32 112#32
  let main_v2 : IVec S14336 32 := broadcastInDim S14336 ![] bcast_S_S14336 main_c_0
  let main_v3 : IVec S14336 1 := cmpi .slt main_arg4 main_v2
  let main_v4 : IVec S14336 1 := andi main_v1 main_v3
  let main_c_1 : IVec S_ 1 := constantI S_ 1 1#1
  let main_v5 : IVec S_ 1 := (fun x v => Host.reduce IntOp.andi x v reducesTo_S14336_S_d0 h_S_) main_v4 main_c_1
  let main_v6 : FVec F S128x1x14336 .bf16 := Host.absf main_arg0
  let main_cst : FVec F S_ .bf16 := constant S_ .bf16 0x7F80#16
  let main_v7 : FVec F S128x1x14336 .bf16 := broadcastInDim S128x1x14336 ![] bcast_S_S128x1x14336 main_cst
  let main_v8 : IVec S128x1x14336 1 := cmpf .olt main_v6 main_v7
  let main_c_2 : IVec S_ 1 := constantI S_ 1 1#1
  let main_v9 : IVec S_ 1 := (fun x v => Host.reduce IntOp.andi x v reducesTo_S128x1x14336_S_d0_1_2 h_S_) main_v8 main_c_2
  let main_v10 : IVec S_ 1 := andi main_v5 main_v9
  let main_v11 : FVec F S112x3584 .bf16 := Host.absf main_arg2
  let main_cst_3 : FVec F S_ .bf16 := constant S_ .bf16 0x7F80#16
  let main_v12 : FVec F S112x3584 .bf16 := broadcastInDim S112x3584 ![] bcast_S_S112x3584 main_cst_3
  let main_v13 : IVec S112x3584 1 := cmpf .olt main_v11 main_v12
  let main_c_4 : IVec S_ 1 := constantI S_ 1 1#1
  let main_v14 : IVec S_ 1 := (fun x v => Host.reduce IntOp.andi x v reducesTo_S112x3584_S_d0_1 h_S_) main_v13 main_c_4
  let main_v15 : IVec S_ 1 := andi main_v10 main_v14
  main_v15
-- ==== Pre_groups.lean ====
abbrev S128x1x14336 : Shape := ⟨3, ![128, 1, 14336]⟩
abbrev S1792x3584 : Shape := ⟨2, ![1792, 3584]⟩
abbrev S112x3584 : Shape := ⟨2, ![112, 3584]⟩
abbrev S56x3584 : Shape := ⟨2, ![56, 3584]⟩
abbrev S14336 : Shape := ⟨1, ![14336]⟩
abbrev S_ : Shape := ⟨0, ![]⟩

class Facts : Prop where
  bcast_S_S14336 : S_.BroadcastsInDim S14336 (![] : Fin 0 → Fin S14336.rank)

variable [Facts]

def fn {F : FTy → Type} [FloatOps F] (main_arg0 : FVec F S128x1x14336 .bf16) (main_arg1 : IVec S1792x3584 32) (main_arg2 : FVec F S112x3584 .bf16) (main_arg3 : IVec S56x3584 8) (main_arg4 : IVec S14336 32) : IVec S14336 1 :=
  let main_c : IVec S_ 32 := constantI S_ 32 0#32
  let main_v0 : IVec S14336 32 := broadcastInDim S14336 ![] bcast_S_S14336 main_c
  let main_v1 : IVec S14336 1 := cmpi .sge main_arg4 main_v0
  let main_c_0 : IVec S_ 32 := constantI S_ 32 112#32
  let main_v2 : IVec S14336 32 := broadcastInDim S14336 ![] bcast_S_S14336 main_c_0
  let main_v3 : IVec S14336 1 := cmpi .slt main_arg4 main_v2
  let main_v4 : IVec S14336 1 := andi main_v1 main_v3
  main_v4
-- ==== Kernel.lean ====
abbrev S128x1x14336 : Shape := ⟨3, ![128, 1, 14336]⟩
abbrev S1792x3584 : Shape := ⟨2, ![1792, 3584]⟩
abbrev S112x3584 : Shape := ⟨2, ![112, 3584]⟩
abbrev S56x3584 : Shape := ⟨2, ![56, 3584]⟩
abbrev S14336 : Shape := ⟨1, ![14336]⟩
abbrev S128x14336 : Shape := ⟨2, ![128, 14336]⟩
abbrev S128x3584 : Shape := ⟨2, ![128, 3584]⟩
abbrev S128x1024 : Shape := ⟨2, ![128, 1024]⟩
abbrev S1792x128 : Shape := ⟨2, ![1792, 128]⟩
abbrev S8256x128 : Shape := ⟨2, ![8256, 128]⟩
abbrev S128x128 : Shape := ⟨2, ![128, 128]⟩
abbrev S112x128 : Shape := ⟨2, ![112, 128]⟩
abbrev S1 : Shape := ⟨1, ![1]⟩
abbrev S8x128 : Shape := ⟨2, ![8, 128]⟩
abbrev S128x1x128 : Shape := ⟨3, ![128, 1, 128]⟩
abbrev S128x8x128 : Shape := ⟨3, ![128, 8, 128]⟩
abbrev S1024x128 : Shape := ⟨2, ![1024, 128]⟩
abbrev S512x128 : Shape := ⟨2, ![512, 128]⟩
abbrev S1024x256 : Shape := ⟨2, ![1024, 256]⟩
abbrev S128x256 : Shape := ⟨2, ![128, 256]⟩
abbrev S16x256 : Shape := ⟨2, ![16, 256]⟩
abbrev S56x256 : Shape := ⟨2, ![56, 256]⟩
abbrev S112x256 : Shape := ⟨2, ![112, 256]⟩
abbrev S256x256 : Shape := ⟨2, ![256, 256]⟩
abbrev S128x1x3584 : Shape := ⟨3, ![128, 1, 3584]⟩

abbrev nBuf : Space → Nat
  | .hbm => 7
  | .vmem => 12
  | .smem => 1
  | _ => 0

abbrev bufTy : (tb : Table) → Fin (tcTables nBuf tb) → BufTy
  | .hbm, ⟨0, _⟩ => ⟨S128x1x14336, .bf16⟩
  | .hbm, ⟨1, _⟩ => ⟨S1792x3584, .i32⟩
  | .hbm, ⟨2, _⟩ => ⟨S112x3584, .bf16⟩
  | .hbm, ⟨3, _⟩ => ⟨S56x3584, .i8⟩
  | .hbm, ⟨4, _⟩ => ⟨S128x14336, .bf16⟩
  | .hbm, ⟨5, _⟩ => ⟨S128x3584, .bf16⟩
  | .hbm, ⟨6, _⟩ => ⟨S128x1x3584, .bf16⟩
  | .local _ .vmem, ⟨0, _⟩ => ⟨S128x1024, .bf16⟩
  | .local _ .vmem, ⟨1, _⟩ => ⟨S128x1024, .bf16⟩
  | .local _ .vmem, ⟨2, _⟩ => ⟨S128x3584, .i32⟩
  | .local _ .vmem, ⟨3, _⟩ => ⟨S128x3584, .i32⟩
  | .local _ .vmem, ⟨4, _⟩ => ⟨S112x3584, .bf16⟩
  | .local _ .vmem, ⟨5, _⟩ => ⟨S56x3584, .i8⟩
  | .local _ .vmem, ⟨6, _⟩ => ⟨S128x3584, .bf16⟩
  | .local _ .vmem, ⟨7, _⟩ => ⟨S1792x128, .i32⟩
  | .local _ .vmem, ⟨8, _⟩ => ⟨S8256x128, .i32⟩
  | .local _ .vmem, ⟨9, _⟩ => ⟨S8256x128, .i32⟩
  | .local _ .vmem, ⟨10, _⟩ => ⟨S128x3584, .f32⟩
  | .local _ .vmem, ⟨11, _⟩ => ⟨S128x128, .f32⟩
  | .local _ .smem, ⟨0, _⟩ => ⟨S14336, .i32⟩
  | _, _ => ⟨S128x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![14], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_off1 (i : grid0.Coords) (k0_t1 : Fin k0_t1_loop.trips) : Fin 1 → Nat :=
  let arg0 : BitVec 32 := BitVec.ofNat 32 (i 0).val
  let c1024_i32 : BitVec 32 := 1024#32
  let v3 : BitVec 32 := Scalar.muli arg0 c1024_i32
  let c2_i32 : BitVec 32 := 2#32
  let c0_i32_1 : BitVec 32 := 0#32
  let c1_i32 : BitVec 32 := 1#32
  let arg12 : BitVec 32 := Scf.iv c0_i32_1 c1_i32 k0_t1
  let v1488 : BitVec 32 := Scalar.muli c2_i32 arg12
  let v1489 : BitVec 32 := Scalar.addi v3 v1488
  let v1490 : Index := Scalar.indexCast v1489
  ![v1490.toNat]
def k0_mult1 (v1491 : BitVec 32) : BitVec 32 :=
  let c16_i32_620 : BitVec 32 := 16#32
  let v1492 : BitVec 32 := Scalar.muli v1491 c16_i32_620
  v1492

def k0_off2 (i : grid0.Coords) (k0_t1 : Fin k0_t1_loop.trips) : Fin 1 → Nat :=
  let arg0 : BitVec 32 := BitVec.ofNat 32 (i 0).val
  let c1024_i32 : BitVec 32 := 1024#32
  let v3 : BitVec 32 := Scalar.muli arg0 c1024_i32
  let c2_i32_621 : BitVec 32 := 2#32
  let c0_i32_1 : BitVec 32 := 0#32
  let c1_i32 : BitVec 32 := 1#32
  let arg12 : BitVec 32 := Scf.iv c0_i32_1 c1_i32 k0_t1
  let v1494 : BitVec 32 := Scalar.muli c2_i32_621 arg12
  let v1495 : BitVec 32 := Scalar.addi v3 v1494
  let c1_i32_622 : BitVec 32 := 1#32
  let v1496 : BitVec 32 := Scalar.addi v1495 c1_i32_622
  let v1497 : Index := Scalar.indexCast v1496
  ![v1497.toNat]
def k0_mult2 (v1498 : BitVec 32) : BitVec 32 :=
  let c16_i32_623 : BitVec 32 := 16#32
  let v1499 : BitVec 32 := Scalar.muli v1498 c16_i32_623
  v1499

def k0_off3 (v1491 : BitVec 32) (c0_i32_624 : BitVec 32) : Fin 2 → Nat :=
  let c16_i32_620 : BitVec 32 := 16#32
  let v1492 : BitVec 32 := Scalar.muli v1491 c16_i32_620
  let v1493 : BitVec 32 := v1492
  let v1501 : BitVec 32 := Scalar.addi v1493 c0_i32_624
  let v1502 : Index := Scalar.indexCast v1501
  let c0_625 : Index := 0#32
  ![v1502.toNat, 0]

def k0_chk1 (v1491 : BitVec 32) : Prop :=
  (16 ∣ (k0_mult1 v1491).toNat) ∧
  (∀ (r : Fin 2), ∀ a, (k0_off3 v1491 (BitVec.ofNat 32 (8 * r.val))) a + S8x128.size a ≤ S1792x128.size a)
theorem k0_mult1_dvd : ∀ (v1491 : BitVec 32) (k0_hw1 : k0_chk1 v1491), 16 ∣ (k0_mult1 v1491).toNat := fun v1491 k0_hw1 => k0_hw1.1
theorem k0_off3_inb : ∀ (v1491 : BitVec 32) (k0_hw1 : k0_chk1 v1491), ∀ (r : Fin 2), ∀ a, (k0_off3 v1491 (BitVec.ofNat 32 (8 * r.val))) a + S8x128.size a ≤ S1792x128.size a := fun v1491 k0_hw1 r => k0_hw1.2 r

def k0_off4 (v1498 : BitVec 32) (c0_i32_626 : BitVec 32) : Fin 2 → Nat :=
  let c16_i32_623 : BitVec 32 := 16#32
  let v1499 : BitVec 32 := Scalar.muli v1498 c16_i32_623
  let v1500 : BitVec 32 := v1499
  let v1504 : BitVec 32 := Scalar.addi v1500 c0_i32_626
  let v1505 : Index := Scalar.indexCast v1504
  let c0_627 : Index := 0#32
  ![v1505.toNat, 0]

def k0_chk2 (v1498 : BitVec 32) : Prop :=
  (16 ∣ (k0_mult2 v1498).toNat) ∧
  (∀ (r : Fin 2), ∀ a, (k0_off4 v1498 (BitVec.ofNat 32 (8 * r.val))) a + S8x128.size a ≤ S1792x128.size a)
theorem k0_mult2_dvd : ∀ (v1498 : BitVec 32) (k0_hw2 : k0_chk2 v1498), 16 ∣ (k0_mult2 v1498).toNat := fun v1498 k0_hw2 => k0_hw2.1
theorem k0_off4_inb : ∀ (v1498 : BitVec 32) (k0_hw2 : k0_chk2 v1498), ∀ (r : Fin 2), ∀ a, (k0_off4 v1498 (BitVec.ofNat 32 (8 * r.val))) a + S8x128.size a ≤ S1792x128.size a := fun v1498 k0_hw2 r => k0_hw2.2 r

def k0_off5 (k0_t1 : Fin k0_t1_loop.trips) (c0_i32_628 : BitVec 32) : Fin 2 → Nat :=
  let c0_i32_1 : BitVec 32 := 0#32
  let c1_i32 : BitVec 32 := 1#32
  let arg12 : BitVec 32 := Scf.iv c0_i32_1 c1_i32 k0_t1
  let v1507 : BitVec 32 := Scalar.addi c0_i32_628 arg12
  let v1513 : Index := Scalar.indexCast v1507
  let c0_630 : Index := 0#32
  ![v1513.toNat, 0]
def k0_cond2 (i : grid0.Coords) : BitVec 1 :=
  let arg0 : BitVec 32 := BitVec.ofNat 32 (i 0).val
  let c13_i32 : BitVec 32 := 13#32
  let v1485 : BitVec 1 := Scalar.cmpi .eq arg0 c13_i32
  let v1486 : BitVec 32 := Scalar.extui v1485
  let c0_i32_619 : BitVec 32 := 0#32
  let v1487 : BitVec 1 := Scalar.cmpi .ne v1486 c0_i32_619
  v1487

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S112x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S128x1x14336 : Shape := ⟨3, ![128, 1, 14336]⟩
abbrev S1792x3584 : Shape := ⟨2, ![1792, 3584]⟩
abbrev S112x3584 : Shape := ⟨2, ![112, 3584]⟩
abbrev S56x3584 : Shape := ⟨2, ![56, 3584]⟩
abbrev S14336 : Shape := ⟨1, ![14336]⟩
abbrev S128x14336 : Shape := ⟨2, ![128, 14336]⟩
abbrev S128x3584 : Shape := ⟨2, ![128, 3584]⟩
abbrev S128x1024 : Shape := ⟨2, ![128, 1024]⟩
abbrev S1792x128 : Shape := ⟨2, ![1792, 128]⟩
abbrev S1792x2x128 : Shape := ⟨3, ![1792, 2, 128]⟩
abbrev S1792x1x128 : Shape := ⟨3, ![1792, 1, 128]⟩
abbrev S8256x128 : Shape := ⟨2, ![8256, 128]⟩
abbrev S8256x2x128 : Shape := ⟨3, ![8256, 2, 128]⟩
abbrev S8256x1x128 : Shape := ⟨3, ![8256, 1, 128]⟩
abbrev S128x128 : Shape := ⟨2, ![128, 128]⟩
abbrev S112x128 : Shape := ⟨2, ![112, 128]⟩
abbrev S112x2x128 : Shape := ⟨3, ![112, 2, 128]⟩
abbrev S112x1x128 : Shape := ⟨3, ![112, 1, 128]⟩
abbrev S1 : Shape := ⟨1, ![1]⟩
abbrev S8x128 : Shape := ⟨2, ![8, 128]⟩
abbrev S8x2x128 : Shape := ⟨3, ![8, 2, 128]⟩
abbrev S8x1x128 : Shape := ⟨3, ![8, 1, 128]⟩
abbrev S128x1x128 : Shape := ⟨3, ![128, 1, 128]⟩
abbrev S128x8x128 : Shape := ⟨3, ![128, 8, 128]⟩
abbrev S1024x128 : Shape := ⟨2, ![1024, 128]⟩
abbrev S512x128 : Shape := ⟨2, ![512, 128]⟩
abbrev S512x2x128 : Shape := ⟨3, ![512, 2, 128]⟩
abbrev S512x1x128 : Shape := ⟨3, ![512, 1, 128]⟩
abbrev S1024x256 : Shape := ⟨2, ![1024, 256]⟩
abbrev S128x256 : Shape := ⟨2, ![128, 256]⟩
abbrev S16x256 : Shape := ⟨2, ![16, 256]⟩
abbrev S56x256 : Shape := ⟨2, ![56, 256]⟩
abbrev S112x256 : Shape := ⟨2, ![112, 256]⟩
abbrev S256x256 : Shape := ⟨2, ![256, 256]⟩
abbrev S128x1x3584 : Shape := ⟨3, ![128, 1, 3584]⟩

abbrev nBuf : Space → Nat
  | .hbm => 7
  | .vmem => 12
  | .smem => 1
  | _ => 0

abbrev bufTy : (tb : Table) → Fin (tcTables nBuf tb) → BufTy
  | .hbm, ⟨0, _⟩ => ⟨S128x1x14336, .bf16⟩
  | .hbm, ⟨1, _⟩ => ⟨S1792x3584, .i32⟩
  | .hbm, ⟨2, _⟩ => ⟨S112x3584, .bf16⟩
  | .hbm, ⟨3, _⟩ => ⟨S56x3584, .i8⟩
  | .hbm, ⟨4, _⟩ => ⟨S128x14336, .bf16⟩
  | .hbm, ⟨5, _⟩ => ⟨S128x3584, .bf16⟩
  | .hbm, ⟨6, _⟩ => ⟨S128x1x3584, .bf16⟩
  | .local _ .vmem, ⟨0, _⟩ => ⟨S128x1024, .bf16⟩
  | .local _ .vmem, ⟨1, _⟩ => ⟨S128x1024, .bf16⟩
  | .local _ .vmem, ⟨2, _⟩ => ⟨S128x3584, .i32⟩
  | .local _ .vmem, ⟨3, _⟩ => ⟨S128x3584, .i32⟩
  | .local _ .vmem, ⟨4, _⟩ => ⟨S112x3584, .bf16⟩
  | .local _ .vmem, ⟨5, _⟩ => ⟨S56x3584, .i8⟩
  | .local _ .vmem, ⟨6, _⟩ => ⟨S128x3584, .bf16⟩
  | .local _ .vmem, ⟨7, _⟩ => ⟨S1792x2x128, .bf16⟩
  | .local _ .vmem, ⟨8, _⟩ => ⟨S8256x2x128, .bf16⟩
  | .local _ .vmem, ⟨9, _⟩ => ⟨S8256x2x128, .bf16⟩
  | .local _ .vmem, ⟨10, _⟩ => ⟨S128x3584, .f32⟩
  | .local _ .vmem, ⟨11, _⟩ => ⟨S128x128, .f32⟩
  | .local _ .smem, ⟨0, _⟩ => ⟨S14336, .i32⟩
  | _, _ => ⟨S128x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![14], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_off1 (i : grid0.Coords) (k0_t1 : Fin k0_t1_loop.trips) : Fin 1 → Nat :=
  let arg0 : BitVec 32 := BitVec.ofNat 32 (i 0).val
  let c1024_i32 : BitVec 32 := 1024#32
  let v3 : BitVec 32 := Scalar.muli arg0 c1024_i32
  let c2_i32 : BitVec 32 := 2#32
  let c0_i32_1 : BitVec 32 := 0#32
  let c1_i32 : BitVec 32 := 1#32
  let arg12 : BitVec 32 := Scf.iv c0_i32_1 c1_i32 k0_t1
  let v1488 : BitVec 32 := Scalar.muli c2_i32 arg12
  let v1489 : BitVec 32 := Scalar.addi v3 v1488
  let v1490 : Index := Scalar.indexCast v1489
  ![v1490.toNat]
def k0_mult1 (v1491 : BitVec 32) : BitVec 32 :=
  let c16_i32_620 : BitVec 32 := 16#32
  let v1492 : BitVec 32 := Scalar.muli v1491 c16_i32_620
  v1492

def k0_off2 (i : grid0.Coords) (k0_t1 : Fin k0_t1_loop.trips) : Fin 1 → Nat :=
  let arg0 : BitVec 32 := BitVec.ofNat 32 (i 0).val
  let c1024_i32 : BitVec 32 := 1024#32
  let v3 : BitVec 32 := Scalar.muli arg0 c1024_i32
  let c2_i32_621 : BitVec 32 := 2#32
  let c0_i32_1 : BitVec 32 := 0#32
  let c1_i32 : BitVec 32 := 1#32
  let arg12 : BitVec 32 := Scf.iv c0_i32_1 c1_i32 k0_t1
  let v1494 : BitVec 32 := Scalar.muli c2_i32_621 arg12
  let v1495 : BitVec 32 := Scalar.addi v3 v1494
  let c1_i32_622 : BitVec 32 := 1#32
  let v1496 : BitVec 32 := Scalar.addi v1495 c1_i32_622
  let v1497 : Index := Scalar.indexCast v1496
  ![v1497.toNat]
def k0_mult2 (v1498 : BitVec 32) : BitVec 32 :=
  let c16_i32_623 : BitVec 32 := 16#32
  let v1499 : BitVec 32 := Scalar.muli v1498 c16_i32_623
  v1499

def k0_off3 (v1491 : BitVec 32) (c0_i32_624 : BitVec 32) : Fin 3 → Nat :=
  let c16_i32_620 : BitVec 32 := 16#32
  let v1492 : BitVec 32 := Scalar.muli v1491 c16_i32_620
  let v1493 : BitVec 32 := v1492
  let v1501 : BitVec 32 := Scalar.addi v1493 c0_i32_624
  let v1502 : Index := Scalar.indexCast v1501
  let c0_625 : Index := 0#32
  ![v1502.toNat, 0, 0]

def k0_chk1 (v1491 : BitVec 32) : Prop :=
  (16 ∣ (k0_mult1 v1491).toNat) ∧
  (∀ (r : Fin 2), ∀ a, (k0_off3 v1491 (BitVec.ofNat 32 (8 * r.val))) a + S8x2x128.size a ≤ S1792x2x128.size a)
theorem k0_mult1_dvd : ∀ (v1491 : BitVec 32) (k0_hw1 : k0_chk1 v1491), 16 ∣ (k0_mult1 v1491).toNat := fun v1491 k0_hw1 => k0_hw1.1
theorem k0_off3_inb : ∀ (v1491 : BitVec 32) (k0_hw1 : k0_chk1 v1491), ∀ (r : Fin 2), ∀ a, (k0_off3 v1491 (BitVec.ofNat 32 (8 * r.val))) a + S8x2x128.size a ≤ S1792x2x128.size a := fun v1491 k0_hw1 r => k0_hw1.2 r

def k0_off4 (v1498 : BitVec 32) (c0_i32_626 : BitVec 32) : Fin 3 → Nat :=
  let c16_i32_623 : BitVec 32 := 16#32
  let v1499 : BitVec 32 := Scalar.muli v1498 c16_i32_623
  let v1500 : BitVec 32 := v1499
  let v1504 : BitVec 32 := Scalar.addi v1500 c0_i32_626
  let v1505 : Index := Scalar.indexCast v1504
  let c0_627 : Index := 0#32
  ![v1505.toNat, 0, 0]

def k0_chk2 (v1498 : BitVec 32) : Prop :=
  (16 ∣ (k0_mult2 v1498).toNat) ∧
  (∀ (r : Fin 2), ∀ a, (k0_off4 v1498 (BitVec.ofNat 32 (8 * r.val))) a + S8x2x128.size a ≤ S1792x2x128.size a)
theorem k0_mult2_dvd : ∀ (v1498 : BitVec 32) (k0_hw2 : k0_chk2 v1498), 16 ∣ (k0_mult2 v1498).toNat := fun v1498 k0_hw2 => k0_hw2.1
theorem k0_off4_inb : ∀ (v1498 : BitVec 32) (k0_hw2 : k0_chk2 v1498), ∀ (r : Fin 2), ∀ a, (k0_off4 v1498 (BitVec.ofNat 32 (8 * r.val))) a + S8x2x128.size a ≤ S1792x2x128.size a := fun v1498 k0_hw2 r => k0_hw2.2 r

def k0_off5 (k0_t1 : Fin k0_t1_loop.trips) (c0_i32_628 : BitVec 32) : Fin 3 → Nat :=
  let c0_i32_1 : BitVec 32 := 0#32
  let c1_i32 : BitVec 32 := 1#32
  let arg12 : BitVec 32 := Scf.iv c0_i32_1 c1_i32 k0_t1
  let v1507 : BitVec 32 := Scalar.addi c0_i32_628 arg12
  let v1513 : Index := Scalar.indexCast v1507
  let c0_630 : Index := 0#32
  ![v1513.toNat, 0, 0]
def k0_cond2 (i : grid0.Coords) : BitVec 1 :=
  let arg0 : BitVec 32 := BitVec.ofNat 32 (i 0).val
  let c13_i32 : BitVec 32 := 13#32
  let v1485 : BitVec 1 := Scalar.cmpi .eq arg0 c13_i32
  let v1486 : BitVec 32 := Scalar.extui v1485
  let c0_i32_619 : BitVec 32 := 0#32
  let v1487 : BitVec 1 := Scalar.cmpi .ne v1486 c0_i32_619
  v1487

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S112x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x1x14336 : Shape := ⟨3, ![128, 1, 14336]⟩
abbrev S1792x3584 : Shape := ⟨2, ![1792, 3584]⟩
abbrev S112x3584 : Shape := ⟨2, ![112, 3584]⟩
abbrev S56x3584 : Shape := ⟨2, ![56, 3584]⟩
abbrev S14336 : Shape := ⟨1, ![14336]⟩
abbrev S_ : Shape := ⟨0, ![]⟩
abbrev S1792 : Shape := ⟨1, ![1792]⟩
abbrev S1792x1 : Shape := ⟨2, ![1792, 1]⟩
abbrev S128x1x1792 : Shape := ⟨3, ![128, 1, 1792]⟩
abbrev S128x1x3584 : Shape := ⟨3, ![128, 1, 3584]⟩

abbrev nBuf : Space → Nat
  | .hbm => 262
  | .vmem => 0
  | .smem => 0
  | _ => 0

abbrev hbmTy0_0 (i : Nat) : BufTy := match i % 128 with
  | 0 => ⟨S128x1x14336, .bf16⟩
  | 1 => ⟨S1792x3584, .i32⟩
  | 2 => ⟨S112x3584, .bf16⟩
  | 3 => ⟨S56x3584, .i8⟩
  | 4 => ⟨S14336, .i32⟩
  | 5 => ⟨S56x3584, .i32⟩
  | 6 => ⟨S_, .i32⟩
  | 7 => ⟨S56x3584, .i32⟩
  | 8 => ⟨S56x3584, .i32⟩
  | 9 => ⟨S_, .i32⟩
  | 10 => ⟨S56x3584, .i32⟩
  | 11 => ⟨S56x3584, .i32⟩
  | 12 => ⟨S112x3584, .i32⟩
  | 13 => ⟨S112x3584, .bf16⟩
  | 14 => ⟨S1792, .i32⟩
  | 15 => ⟨S_, .i32⟩
  | 16 => ⟨S1792x3584, .i32⟩
  | 17 => ⟨S1792x3584, .i32⟩
  | 18 => ⟨S_, .i32⟩
  | 19 => ⟨S1792x3584, .i32⟩
  | 20 => ⟨S1792x3584, .i32⟩
  | 21 => ⟨S1792x3584, .bf16⟩
  | 22 => ⟨S_, .i32⟩
  | 23 => ⟨S1792, .i32⟩
  | 24 => ⟨S1792, .i1⟩
  | 25 => ⟨S_, .i32⟩
  | 26 => ⟨S1792, .i32⟩
  | 27 => ⟨S1792, .i32⟩
  | 28 => ⟨S1792, .i32⟩
  | 29 => ⟨S1792x1, .i32⟩
  | 30 => ⟨S1792x3584, .bf16⟩
  | 31 => ⟨S1792x3584, .bf16⟩
  | 32 => ⟨S_, .i32⟩
  | 33 => ⟨S1792, .i32⟩
  | 34 => ⟨S1792, .i1⟩
  | 35 => ⟨S_, .i32⟩
  | 36 => ⟨S1792, .i32⟩
  | 37 => ⟨S1792, .i32⟩
  | 38 => ⟨S1792, .i32⟩
  | 39 => ⟨S1792x1, .i32⟩
  | 40 => ⟨S1792x3584, .bf16⟩
  | 41 => ⟨S1792x3584, .bf16⟩
  | 42 => ⟨S128x1x1792, .bf16⟩
  | 43 => ⟨S128x1x3584, .f32⟩
  | 44 => ⟨S1792, .i32⟩
  | 45 => ⟨S_, .i32⟩
  | 46 => ⟨S1792x3584, .i32⟩
  | 47 => ⟨S1792x3584, .i32⟩
  | 48 => ⟨S_, .i32⟩
  | 49 => ⟨S1792x3584, .i32⟩
  | 50 => ⟨S1792x3584, .i32⟩
  | 51 => ⟨S1792x3584, .bf16⟩
  | 52 => ⟨S_, .i32⟩
  | 53 => ⟨S1792, .i32⟩
  | 54 => ⟨S1792, .i1⟩
  | 55 => ⟨S_, .i32⟩
  | 56 => ⟨S1792, .i32⟩
  | 57 => ⟨S1792, .i32⟩
  | 58 => ⟨S1792, .i32⟩
  | 59 => ⟨S1792x1, .i32⟩
  | 60 => ⟨S1792x3584, .bf16⟩
  | 61 => ⟨S1792x3584, .bf16⟩
  | 62 => ⟨S_, .i32⟩
  | 63 => ⟨S1792, .i32⟩
  | 64 => ⟨S1792, .i1⟩
  | 65 => ⟨S_, .i32⟩
  | 66 => ⟨S1792, .i32⟩
  | 67 => ⟨S1792, .i32⟩
  | 68 => ⟨S1792, .i32⟩
  | 69 => ⟨S1792x1, .i32⟩
  | 70 => ⟨S1792x3584, .bf16⟩
  | 71 => ⟨S1792x3584, .bf16⟩
  | 72 => ⟨S128x1x1792, .bf16⟩
  | 73 => ⟨S128x1x3584, .f32⟩
  | 74 => ⟨S128x1x3584, .f32⟩
  | 75 => ⟨S1792, .i32⟩
  | 76 => ⟨S_, .i32⟩
  | 77 => ⟨S1792x3584, .i32⟩
  | 78 => ⟨S1792x3584, .i32⟩
  | 79 => ⟨S_, .i32⟩
  | 80 => ⟨S1792x3584, .i32⟩
  | 81 => ⟨S1792x3584, .i32⟩
  | 82 => ⟨S1792x3584, .bf16⟩
  | 83 => ⟨S_, .i32⟩
  | 84 => ⟨S1792, .i32⟩
  | 85 => ⟨S1792, .i1⟩
  | 86 => ⟨S_, .i32⟩
  | 87 => ⟨S1792, .i32⟩
  | 88 => ⟨S1792, .i32⟩
  | 89 => ⟨S1792, .i32⟩
  | 90 => ⟨S1792x1, .i32⟩
  | 91 => ⟨S1792x3584, .bf16⟩
  | 92 => ⟨S1792x3584, .bf16⟩
  | 93 => ⟨S_, .i32⟩
  | 94 => ⟨S1792, .i32⟩
  | 95 => ⟨S1792, .i1⟩
  | 96 => ⟨S_, .i32⟩
  | 97 => ⟨S1792, .i32⟩
  | 98 => ⟨S1792, .i32⟩
  | 99 => ⟨S1792, .i32⟩
  | 100 => ⟨S1792x1, .i32⟩
  | 101 => ⟨S1792x3584, .bf16⟩
  | 102 => ⟨S1792x3584, .bf16⟩
  | 103 => ⟨S128x1x1792, .bf16⟩
  | 104 => ⟨S128x1x3584, .f32⟩
  | 105 => ⟨S128x1x3584, .f32⟩
  | 106 => ⟨S1792, .i32⟩
  | 107 => ⟨S_, .i32⟩
  | 108 => ⟨S1792x3584, .i32⟩
  | 109 => ⟨S1792x3584, .i32⟩
  | 110 => ⟨S_, .i32⟩
  | 111 => ⟨S1792x3584, .i32⟩
  | 112 => ⟨S1792x3584, .i32⟩
  | 113 => ⟨S1792x3584, .bf16⟩
  | 114 => ⟨S_, .i32⟩
  | 115 => ⟨S1792, .i32⟩
  | 116 => ⟨S1792, .i1⟩
  | 117 => ⟨S_, .i32⟩
  | 118 => ⟨S1792, .i32⟩
  | 119 => ⟨S1792, .i32⟩
  | 120 => ⟨S1792, .i32⟩
  | 121 => ⟨S1792x1, .i32⟩
  | 122 => ⟨S1792x3584, .bf16⟩
  | 123 => ⟨S1792x3584, .bf16⟩
  | 124 => ⟨S_, .i32⟩
  | 125 => ⟨S1792, .i32⟩
  | 126 => ⟨S1792, .i1⟩
  | 127 => ⟨S_, .i32⟩
  | _ => ⟨S128x1x14336, .bf16⟩

abbrev hbmTy0_1 (i : Nat) : BufTy := match i % 128 with
  | 0 => ⟨S1792, .i32⟩
  | 1 => ⟨S1792, .i32⟩
  | 2 => ⟨S1792, .i32⟩
  | 3 => ⟨S1792x1, .i32⟩
  | 4 => ⟨S1792x3584, .bf16⟩
  | 5 => ⟨S1792x3584, .bf16⟩
  | 6 => ⟨S128x1x1792, .bf16⟩
  | 7 => ⟨S128x1x3584, .f32⟩
  | 8 => ⟨S128x1x3584, .f32⟩
  | 9 => ⟨S1792, .i32⟩
  | 10 => ⟨S_, .i32⟩
  | 11 => ⟨S1792x3584, .i32⟩
  | 12 => ⟨S1792x3584, .i32⟩
  | 13 => ⟨S_, .i32⟩
  | 14 => ⟨S1792x3584, .i32⟩
  | 15 => ⟨S1792x3584, .i32⟩
  | 16 => ⟨S1792x3584, .bf16⟩
  | 17 => ⟨S_, .i32⟩
  | 18 => ⟨S1792, .i32⟩
  | 19 => ⟨S1792, .i1⟩
  | 20 => ⟨S_, .i32⟩
  | 21 => ⟨S1792, .i32⟩
  | 22 => ⟨S1792, .i32⟩
  | 23 => ⟨S1792, .i32⟩
  | 24 => ⟨S1792x1, .i32⟩
  | 25 => ⟨S1792x3584, .bf16⟩
  | 26 => ⟨S1792x3584, .bf16⟩
  | 27 => ⟨S_, .i32⟩
  | 28 => ⟨S1792, .i32⟩
  | 29 => ⟨S1792, .i1⟩
  | 30 => ⟨S_, .i32⟩
  | 31 => ⟨S1792, .i32⟩
  | 32 => ⟨S1792, .i32⟩
  | 33 => ⟨S1792, .i32⟩
  | 34 => ⟨S1792x1, .i32⟩
  | 35 => ⟨S1792x3584, .bf16⟩
  | 36 => ⟨S1792x3584, .bf16⟩
  | 37 => ⟨S128x1x1792, .bf16⟩
  | 38 => ⟨S128x1x3584, .f32⟩
  | 39 => ⟨S128x1x3584, .f32⟩
  | 40 => ⟨S1792, .i32⟩
  | 41 => ⟨S_, .i32⟩
  | 42 => ⟨S1792x3584, .i32⟩
  | 43 => ⟨S1792x3584, .i32⟩
  | 44 => ⟨S_, .i32⟩
  | 45 => ⟨S1792x3584, .i32⟩
  | 46 => ⟨S1792x3584, .i32⟩
  | 47 => ⟨S1792x3584, .bf16⟩
  | 48 => ⟨S_, .i32⟩
  | 49 => ⟨S1792, .i32⟩
  | 50 => ⟨S1792, .i1⟩
  | 51 => ⟨S_, .i32⟩
  | 52 => ⟨S1792, .i32⟩
  | 53 => ⟨S1792, .i32⟩
  | 54 => ⟨S1792, .i32⟩
  | 55 => ⟨S1792x1, .i32⟩
  | 56 => ⟨S1792x3584, .bf16⟩
  | 57 => ⟨S1792x3584, .bf16⟩
  | 58 => ⟨S_, .i32⟩
  | 59 => ⟨S1792, .i32⟩
  | 60 => ⟨S1792, .i1⟩
  | 61 => ⟨S_, .i32⟩
  | 62 => ⟨S1792, .i32⟩
  | 63 => ⟨S1792, .i32⟩
  | 64 => ⟨S1792, .i32⟩
  | 65 => ⟨S1792x1, .i32⟩
  | 66 => ⟨S1792x3584, .bf16⟩
  | 67 => ⟨S1792x3584, .bf16⟩
  | 68 => ⟨S128x1x1792, .bf16⟩
  | 69 => ⟨S128x1x3584, .f32⟩
  | 70 => ⟨S128x1x3584, .f32⟩
  | 71 => ⟨S1792, .i32⟩
  | 72 => ⟨S_, .i32⟩
  | 73 => ⟨S1792x3584, .i32⟩
  | 74 => ⟨S1792x3584, .i32⟩
  | 75 => ⟨S_, .i32⟩
  | 76 => ⟨S1792x3584, .i32⟩
  | 77 => ⟨S1792x3584, .i32⟩
  | 78 => ⟨S1792x3584, .bf16⟩
  | 79 => ⟨S_, .i32⟩
  | 80 => ⟨S1792, .i32⟩
  | 81 => ⟨S1792, .i1⟩
  | 82 => ⟨S_, .i32⟩
  | 83 => ⟨S1792, .i32⟩
  | 84 => ⟨S1792, .i32⟩
  | 85 => ⟨S1792, .i32⟩
  | 86 => ⟨S1792x1, .i32⟩
  | 87 => ⟨S1792x3584, .bf16⟩
  | 88 => ⟨S1792x3584, .bf16⟩
  | 89 => ⟨S_, .i32⟩
  | 90 => ⟨S1792, .i32⟩
  | 91 => ⟨S1792, .i1⟩
  | 92 => ⟨S_, .i32⟩
  | 93 => ⟨S1792, .i32⟩
  | 94 => ⟨S1792, .i32⟩
  | 95 => ⟨S1792, .i32⟩
  | 96 => ⟨S1792x1, .i32⟩
  | 97 => ⟨S1792x3584, .bf16⟩
  | 98 => ⟨S1792x3584, .bf16⟩
  | 99 => ⟨S128x1x1792, .bf16⟩
  | 100 => ⟨S128x1x3584, .f32⟩
  | 101 => ⟨S128x1x3584, .f32⟩
  | 102 => ⟨S1792, .i32⟩
  | 103 => ⟨S_, .i32⟩
  | 104 => ⟨S1792x3584, .i32⟩
  | 105 => ⟨S1792x3584, .i32⟩
  | 106 => ⟨S_, .i32⟩
  | 107 => ⟨S1792x3584, .i32⟩
  | 108 => ⟨S1792x3584, .i32⟩
  | 109 => ⟨S1792x3584, .bf16⟩
  | 110 => ⟨S_, .i32⟩
  | 111 => ⟨S1792, .i32⟩
  | 112 => ⟨S1792, .i1⟩
  | 113 => ⟨S_, .i32⟩
  | 114 => ⟨S1792, .i32⟩
  | 115 => ⟨S1792, .i32⟩
  | 116 => ⟨S1792, .i32⟩
  | 117 => ⟨S1792x1, .i32⟩
  | 118 => ⟨S1792x3584, .bf16⟩
  | 119 => ⟨S1792x3584, .bf16⟩
  | 120 => ⟨S_, .i32⟩
  | 121 => ⟨S1792, .i32⟩
  | 122 => ⟨S1792, .i1⟩
  | 123 => ⟨S_, .i32⟩
  | 124 => ⟨S1792, .i32⟩
  | 125 => ⟨S1792, .i32⟩
  | 126 => ⟨S1792, .i32⟩
  | 127 => ⟨S1792x1, .i32⟩
  | _ => ⟨S128x1x14336, .bf16⟩

abbrev hbmTy0_2 (i : Nat) : BufTy := match i % 128 with
  | 0 => ⟨S1792x3584, .bf16⟩
  | 1 => ⟨S1792x3584, .bf16⟩
  | 2 => ⟨S128x1x1792, .bf16⟩
  | 3 => ⟨S128x1x3584, .f32⟩
  | 4 => ⟨S128x1x3584, .f32⟩
  | 5 => ⟨S128x1x3584, .bf16⟩
  | _ => ⟨S128x1x14336, .bf16⟩

abbrev hbmTy (i : Nat) : BufTy := match i / 128 with
  | 0 => hbmTy0_0 i
  | 1 => hbmTy0_1 i
  | 2 => hbmTy0_2 i
  | _ => ⟨S128x1x14336, .bf16⟩

abbrev bufTy : (tb : Table) → Fin (tcTables nBuf tb) → BufTy
  | .hbm, ⟨i, _⟩ => hbmTy i
  | _, _ => ⟨S128x1x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_15 : Ref sig .tc := ⟨.hbm, 83, rfl⟩
abbrev main_v62 : Ref sig .tc := ⟨.hbm, 84, rfl⟩
abbrev main_v63 : Ref sig .tc := ⟨.hbm, 85, rfl⟩
abbrev main_c_16 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_17 : Ref sig .tc := ⟨.hbm, 93, rfl⟩
abbrev main_v70 : Ref sig .tc := ⟨.hbm, 94, rfl⟩
abbrev main_v71 : Ref sig .tc := ⟨.hbm, 95, rfl⟩
abbrev main_c_18 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_19 : Ref sig .tc := ⟨.hbm, 107, rfl⟩
abbrev main_v82 : Ref sig .tc := ⟨.hbm, 108, rfl⟩
abbrev main_v83 : Ref sig .tc := ⟨.hbm, 109, rfl⟩
abbrev main_c_20 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_21 : Ref sig .tc := ⟨.hbm, 114, rfl⟩
abbrev main_v87 : Ref sig .tc := ⟨.hbm, 115, rfl⟩
abbrev main_v88 : Ref sig .tc := ⟨.hbm, 116, rfl⟩
abbrev main_c_22 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_23 : Ref sig .tc := ⟨.hbm, 124, rfl⟩
abbrev main_v95 : Ref sig .tc := ⟨.hbm, 125, rfl⟩
abbrev main_v96 : Ref sig .tc := ⟨.hbm, 126, rfl⟩
abbrev main_c_24 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_25 : Ref sig .tc := ⟨.hbm, 138, rfl⟩
abbrev main_v107 : Ref sig .tc := ⟨.hbm, 139, rfl⟩
abbrev main_v108 : Ref sig .tc := ⟨.hbm, 140, rfl⟩
abbrev main_c_26 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_27 : Ref sig .tc := ⟨.hbm, 145, rfl⟩
abbrev main_v112 : Ref sig .tc := ⟨.hbm, 146, rfl⟩
abbrev main_v113 : Ref sig .tc := ⟨.hbm, 147, rfl⟩
abbrev main_c_28 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_29 : Ref sig .tc := ⟨.hbm, 155, rfl⟩
abbrev main_v120 : Ref sig .tc := ⟨.hbm, 156, rfl⟩
abbrev main_v121 : Ref sig .tc := ⟨.hbm, 157, rfl⟩
abbrev main_c_30 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_31 : Ref sig .tc := ⟨.hbm, 169, rfl⟩
abbrev main_v132 : Ref sig .tc := ⟨.hbm, 170, rfl⟩
abbrev main_v133 : Ref sig .tc := ⟨.hbm, 171, rfl⟩
abbrev main_c_32 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_c_33 : Ref sig .tc := ⟨.hbm, 176, rfl⟩
abbrev main_v137 : Ref sig .tc := ⟨.hbm, 177, rfl⟩
abbrev main_v138 : Ref sig .tc := ⟨.hbm, 178, rfl⟩
abbrev main_c_34 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_35 : Ref sig .tc := ⟨.hbm, 186, rfl⟩
abbrev main_v145 : Ref sig .tc := ⟨.hbm, 187, rfl⟩
abbrev main_v146 : Ref sig .tc := ⟨.hbm, 188, rfl⟩
abbrev main_c_36 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_37 : Ref sig .tc := ⟨.hbm, 200, rfl⟩
abbrev main_v157 : Ref sig .tc := ⟨.hbm, 201, rfl⟩
abbrev main_v158 : Ref sig .tc := ⟨.hbm, 202, rfl⟩
abbrev main_c_38 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_39 : Ref sig .tc := ⟨.hbm, 207, rfl⟩
abbrev main_v162 : Ref sig .tc := ⟨.hbm, 208, rfl⟩
abbrev main_v163 : Ref sig .tc := ⟨.hbm, 209, rfl⟩
abbrev main_c_40 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_c_41 : Ref sig .tc := ⟨.hbm, 217, rfl⟩
abbrev main_v170 : Ref sig .tc := ⟨.hbm, 218, rfl⟩
abbrev main_v171 : Ref sig .tc := ⟨.hbm, 219, rfl⟩
abbrev main_c_42 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_c_43 : Ref sig .tc := ⟨.hbm, 231, rfl⟩
abbrev main_v182 : Ref sig .tc := ⟨.hbm, 232, rfl⟩
abbrev main_v183 : Ref sig .tc := ⟨.hbm, 233, rfl⟩
abbrev main_c_44 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_c_45 : Ref sig .tc := ⟨.hbm, 238, rfl⟩
abbrev main_v187 : Ref sig .tc := ⟨.hbm, 239, rfl⟩
abbrev main_v188 : Ref sig .tc := ⟨.hbm, 240, rfl⟩
abbrev main_c_46 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_c_47 : Ref sig .tc := ⟨.hbm, 248, rfl⟩
abbrev main_v195 : Ref sig .tc := ⟨.hbm, 249, rfl⟩
abbrev main_v196 : Ref sig .tc := ⟨.hbm, 250, rfl⟩
abbrev main_c_48 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩

abbrev nD : Nat := 1
abbrev τ : Topo := Topo.v7x

variable {F : FTy → Type} [FloatOps F]
-- ==== Proof.FrameK.lean ====
/- The frame of `Kernel`: it runs to the end on every core, keeps its arguments and ends with every semaphore at zero,
   when every word of the group table names one of the 112 groups. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Adequacy
public import Idealize.ShloMosaic.Init
public import Idealize.ShloMosaic.Lib.Tactic
public import Idealize.ShloMosaic.Lib.Pipeline.FrameSuffix

@[expose] public section

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra the proof is stated at: points-tos alone. -/
abbrev UU (nD : Nat) (τ : Topo) : Type := UR sig nD τ
abbrev 𝒱₀ : Variants := Variants.none

local notation "𝕄" => MT nD τ sig Unit (Elt F) ℕ (UU nD τ) ℕ

/-- A word that names one of the 112 groups passes the first assumed side condition. -/
theorem chk1_of_lt (w : BitVec 32) (h : w.toNat < 112) : k0_chk1 w := by
  have : ∀ g : Fin 112, k0_chk1 (BitVec.ofNat 32 g.val) := by decide +kernel
  have e := this ⟨w.toNat, h⟩
  simpa using e

/-- A word that names one of the 112 groups passes the second assumed side condition. -/
theorem chk2_of_lt (w : BitVec 32) (h : w.toNat < 112) : k0_chk2 w := by
  have : ∀ g : Fin 112, k0_chk2 (BitVec.ofNat 32 g.val) := by decide +kernel
  have e := this ⟨w.toNat, h⟩
  simpa using e

/-- Every word of the group table, read through the memref, names a group. -/
def WordsOK (c : Dev nD) (arg1 : Memref sig .tc .smem S14336 .i32) (T : Buf (Elt F) (arg1.view.loc (c : Thread nD τ))) : Prop :=
  ∀ (r : LoadRect S14336) (x : r.shape.Idx), (arg1.view.readAt (Elt F) r T x : BitVec 32).toNat < 112

/-- The gather loop's invariant: the table of words and the scale table stay, the two gathered slabs hold anything. -/
@[sl_loop, instance_reducible] noncomputable def loopInv (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x128 .i32) (harg7 : arg7.IsWhole) (arg8 : Memref sig .tc .vmem S8256x128 .i32) (harg8 : arg8.IsWhole) (arg9 : Memref sig .tc .vmem S8256x128 .i32) (harg9 : arg9.IsWhole) (arg10 : Memref sig .tc .vmem S128x3584 .f32) (harg10 : arg10.IsWhole) (arg11 : Memref sig .tc .vmem S128x128 .f32) (harg11 : arg11.IsWhole) (v3 : BitVec 32)
    (T : Buf (Elt F) (arg1.view.loc (c : Thread nD τ))) (hT : WordsOK c arg1 T)
    (f7 : Buf (Elt F) (arg7.view.loc (c : Thread nD τ))) :
    Cert.Kernel.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 v3 where
  inv := fun _ _ => iprop((arg1.view.loc (c : Thread nD τ) ↦[arg1.view.set]{fullShare.right} T)
      ∗ (arg7.view.loc (c : Thread nD τ) ↦[arg7.view.set]{fullShare} f7)
      ∗ (∃ f, arg8.view.loc (c : Thread nD τ) ↦[arg8.view.set]{fullShare} f)
      ∗ (∃ f, arg9.view.loc (c : Thread nD τ) ↦[arg9.view.set]{fullShare} f))
  step := fun k acc => by
    unfold k0_t1_body
    iintro ⟨H1, H7, ⟨%f8, H8⟩, ⟨%f9, H9⟩⟩
    sl_exec_parts (disch := first | exact chk1_of_lt _ (hT _ _) | exact chk2_of_lt _ (hT _ _))
    sl_step
    isplitl [H1]; · iexact H1
    isplitl [H7]; · iexact H7
    isplitl [H8]; · iexists _; iexact H8
    iexists _; iexact H9

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x128 .i32) (harg7 : arg7.IsWhole) (arg8 : Memref sig .tc .vmem S8256x128 .i32) (harg8 : arg8.IsWhole) (arg9 : Memref sig .tc .vmem S8256x128 .i32) (harg9 : arg9.IsWhole) (arg10 : Memref sig .tc .vmem S128x3584 .f32) (harg10 : arg10.IsWhole) (arg11 : Memref sig .tc .vmem S128x128 .f32) (harg11 : arg11.IsWhole)

/-- What the body is handed and hands back: the group table at its words, every other buffer at any contents. -/
abbrev res (T : Buf (Elt F) (arg1.view.loc (c : Thread nD τ))) : sProp 𝕄 :=
  iprop((arg1.view.loc (c : Thread nD τ) ↦[arg1.view.set]{fullShare.right} T)
    ∗ (∃ f, arg2.view.loc (c : Thread nD τ) ↦[arg2.view.set]{fullShare} f)
    ∗ (∃ f, arg3.view.loc (c : Thread nD τ) ↦[arg3.view.set]{fullShare} f)
    ∗ (∃ f, arg4.view.loc (c : Thread nD τ) ↦[arg4.view.set]{fullShare} f)
    ∗ (∃ f, arg5.view.loc (c : Thread nD τ) ↦[arg5.view.set]{fullShare} f)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f))

set_option maxRecDepth 16384 in
set_option maxHeartbeats 4000000 in
/-- At the first point the body keeps the group table and leaves every other buffer at some contents. -/
theorem body_first (T : Buf (Elt F) (arg1.view.loc (c : Thread nD τ))) (hT : WordsOK c arg1 T)
    (h0 : Scalar.cmpi .ne (Scalar.extui (Scalar.cmpi .eq (BitVec.ofNat 32 (i 0).val) 0#32) : BitVec 32) 0#32 = 1#1) (h1 : ¬ k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxRecDepth 16384 in
set_option maxHeartbeats 4000000 in
/-- At an inner point the body keeps the group table and leaves every other buffer at some contents. -/
theorem body_mid (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : ¬ k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxRecDepth 16384 in
set_option maxHeartbeats 4000000 in
/-- At the last point the body keeps the group table and leaves every other buffer at some contents. -/
theorem body_last (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The first point is not the last. -/
theorem not_both (h0 : Scalar.cmpi .ne (Scalar.extui (Scalar.cmpi .eq (BitVec.ofNat 32 (i 0).val) 0#32) : BitVec 32) 0#32 = 1#1) (h1 : k0_cond2 i = 1#1) : False := by
  have key : ∀ n : Fin 14, Scalar.cmpi .ne (Scalar.extui (Scalar.cmpi .eq (BitVec.ofNat 32 n.val) 0#32) : BitVec 32) 0#32 = 1#1 →
      Scalar.cmpi .ne (Scalar.extui (Scalar.cmpi .eq (BitVec.ofNat 32 n.val) 13#32) : BitVec 32) 0#32 = 1#1 → False := by decide +kernel
  exact key (i 0) h0 h1

/-- At every point the body keeps the group table and leaves every other buffer at some contents. -/
theorem body_any (T : Buf (Elt F) (arg1.view.loc (c : Thread nD τ))) (hT : WordsOK c arg1 T) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  by_cases h0 : Scalar.cmpi .ne (Scalar.extui (Scalar.cmpi .eq (BitVec.ofNat 32 (i 0).val) 0#32) : BitVec 32) 0#32 = 1#1
  · by_cases h1 : k0_cond2 i = 1#1
    · exact (not_both i h0 h1).elim
    · exact body_first c i arg1 harg1 arg2 harg2 arg3 harg3 arg4 harg4 arg5 harg5 arg6 harg6 arg7 harg7 arg8 harg8 arg9 harg9 arg10 harg10 arg11 harg11 T hT h0 h1
  · by_cases h1 : k0_cond2 i = 1#1
    · exact body_last c i arg1 harg1 arg2 harg2 arg3 harg3 arg4 harg4 arg5 harg5 arg6 harg6 arg7 harg7 arg8 harg8 arg9 harg9 arg10 harg10 arg11 harg11 T hT h0 h1
    · exact body_mid c i arg1 harg1 arg2 harg2 arg3 harg3 arg4 harg4 arg5 harg5 arg6 harg6 arg7 harg7 arg8 harg8 arg9 harg9 arg10 harg10 arg11 harg11 T hT h0 h1

end Body

/-! ## The launch -/

section Launch

variable (m : (ℓ : Loc nD τ sig) → Buf (Elt F) ℓ) (ρ : Dev nD → PrngReg)

/-- What the buffers hold when the region is entered. -/
abbrev V₀ (c : Dev nD) : Valuation τ sig (Elt F) := StableHlo.after ([hostOps0 (F := F)].flatten) (fun b => m (c, b))

/-- The group table's words. -/
abbrev tbl : pre0.Contents (Elt F) := fun k => V₀ m (0 : Dev nD) (Proc.devRef .tc (pre0.ref k))

/-- The group table's words, admitted by the pipeline. -/
abbrev adm : (p : Fin 1) → (pcfgs (F := F) p).Adm := fun _ => ⟨tbl m, trivial⟩

theorem V_arg0 (c : Dev nD) : V₀ m c (Proc.devRef .tc main_arg0) = m ((c.tc : Thread nD τ).loc main_arg0) := by
  show StableHlo.after (hostOps0 (F := F)) (fun b => m (c, b)) _ = _
  after_results
theorem V_arg1 (c : Dev nD) : V₀ m c (Proc.devRef .tc main_arg1) = m ((c.tc : Thread nD τ).loc main_arg1) := by
  show StableHlo.after (hostOps0 (F := F)) (fun b => m (c, b)) _ = _
  after_results
theorem V_arg2 (c : Dev nD) : V₀ m c (Proc.devRef .tc main_arg2) = m ((c.tc : Thread nD τ).loc main_arg2) := by
  show StableHlo.after (hostOps0 (F := F)) (fun b => m (c, b)) _ = _
  after_results
theorem V_arg3 (c : Dev nD) : V₀ m c (Proc.devRef .tc main_arg3) = m ((c.tc : Thread nD τ).loc main_arg3) := by
  show StableHlo.after (hostOps0 (F := F)) (fun b => m (c, b)) _ = _
  after_results
theorem V_arg4 (c : Dev nD) : V₀ m c (Proc.devRef .tc main_arg4) = m ((c.tc : Thread nD τ).loc main_arg4) := by
  show StableHlo.after (hostOps0 (F := F)) (fun b => m (c, b)) _ = _
  after_results

/-- Every word of the launch memory's group table names a group. -/
def GroupsOK : Prop := ∀ (c : Dev nD) (y : S14336.Idx), (m ((c.tc : Thread nD τ).loc main_arg4) y : BitVec 32).toNat < 112

theorem wordsOK (hG : GroupsOK m) (c : Dev nD) : WordsOK (F := F) c (Memref.whole main_arg4) (tbl m 0) := by
  intro r x
  have e : (tbl m 0 : S14336.Idx → BitVec 32) = m (((0 : Dev nD).tc : Thread nD τ).loc main_arg4) := V_arg4 m 0
  have h := hG 0 ((Memref.whole main_arg4).view.emb (r.idx x))
  rw [← e] at h
  exact h

end Launch

end Cert.Proof.KernelFrame

end
-- ==== Proof.FrameKI.lean ====
/- The frame of `KernelIdeal`: it runs to the end on every core, keeps its arguments and ends with every semaphore at zero,
   when every word of the group table names one of the 112 groups. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Adequacy
public import Idealize.ShloMosaic.Init
public import Idealize.ShloMosaic.Lib.Tactic
public import Idealize.ShloMosaic.Lib.Pipeline.FrameSuffix

@[expose] public section

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the proof is stated at: points-tos alone. -/
abbrev UU (nD : Nat) (τ : Topo) : Type := UR sig nD τ
abbrev 𝒱₀ : Variants := Variants.none

local notation "𝕄" => MT nD τ sig Unit (Elt F) ℕ (UU nD τ) ℕ

/-- A word that names one of the 112 groups passes the first assumed side condition. -/
theorem chk1_of_lt (w : BitVec 32) (h : w.toNat < 112) : k0_chk1 w := by
  have : ∀ g : Fin 112, k0_chk1 (BitVec.ofNat 32 g.val) := by decide +kernel
  have e := this ⟨w.toNat, h⟩
  simpa using e

/-- A word that names one of the 112 groups passes the second assumed side condition. -/
theorem chk2_of_lt (w : BitVec 32) (h : w.toNat < 112) : k0_chk2 w := by
  have : ∀ g : Fin 112, k0_chk2 (BitVec.ofNat 32 g.val) := by decide +kernel
  have e := this ⟨w.toNat, h⟩
  simpa using e

/-- Every word of the group table, read through the memref, names a group. -/
def WordsOK (c : Dev nD) (arg1 : Memref sig .tc .smem S14336 .i32) (T : Buf (Elt F) (arg1.view.loc (c : Thread nD τ))) : Prop :=
  ∀ (r : LoadRect S14336) (x : r.shape.Idx), (arg1.view.readAt (Elt F) r T x : BitVec 32).toNat < 112

/-- The gather loop's invariant: the table of words and the scale table stay, the two gathered slabs hold anything. -/
@[sl_loop, instance_reducible] noncomputable def loopInv (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole) (v3 : BitVec 32)
    (T : Buf (Elt F) (arg1.view.loc (c : Thread nD τ))) (hT : WordsOK c arg1 T)
    (f7 : Buf (Elt F) (arg7.view.loc (c : Thread nD τ))) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 v3 where
  inv := fun _ _ => iprop((arg1.view.loc (c : Thread nD τ) ↦[arg1.view.set]{fullShare.right} T)
      ∗ (arg7.view.loc (c : Thread nD τ) ↦[arg7.view.set]{fullShare} f7)
      ∗ (∃ f, arg8.view.loc (c : Thread nD τ) ↦[arg8.view.set]{fullShare} f)
      ∗ (∃ f, arg9.view.loc (c : Thread nD τ) ↦[arg9.view.set]{fullShare} f))
  step := fun k acc => by
    unfold k0_t1_body
    iintro ⟨H1, H7, ⟨%f8, H8⟩, ⟨%f9, H9⟩⟩
    sl_exec_parts (disch := first | exact chk1_of_lt _ (hT _ _) | exact chk2_of_lt _ (hT _ _))
    sl_step
    isplitl [H1]; · iexact H1
    isplitl [H7]; · iexact H7
    isplitl [H8]; · iexists _; iexact H8
    iexists _; iexact H9

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole)

/-- What the body is handed and hands back: the group table at its words, every other buffer at any contents. -/
abbrev res (T : Buf (Elt F) (arg1.view.loc (c : Thread nD τ))) : sProp 𝕄 :=
  iprop((arg1.view.loc (c : Thread nD τ) ↦[arg1.view.set]{fullShare.right} T)
    ∗ (∃ f, arg2.view.loc (c : Thread nD τ) ↦[arg2.view.set]{fullShare} f)
    ∗ (∃ f, arg3.view.loc (c : Thread nD τ) ↦[arg3.view.set]{fullShare} f)
    ∗ (∃ f, arg4.view.loc (c : Thread nD τ) ↦[arg4.view.set]{fullShare} f)
    ∗ (∃ f, arg5.view.loc (c : Thread nD τ) ↦[arg5.view.set]{fullShare} f)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f))

set_option maxRecDepth 16384 in
set_option maxHeartbeats 4000000 in
/-- At the first point the body keeps the group table and leaves every other buffer at some contents. -/
theorem body_first (T : Buf (Elt F) (arg1.view.loc (c : Thread nD τ))) (hT : WordsOK c arg1 T)
    (h0 : Scalar.cmpi .ne (Scalar.extui (Scalar.cmpi .eq (BitVec.ofNat 32 (i 0).val) 0#32) : BitVec 32) 0#32 = 1#1) (h1 : ¬ k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxRecDepth 16384 in
set_option maxHeartbeats 4000000 in
/-- At an inner point the body keeps the group table and leaves every other buffer at some contents. -/
theorem body_mid (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : ¬ k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxRecDepth 16384 in
set_option maxHeartbeats 4000000 in
/-- At the last point the body keeps the group table and leaves every other buffer at some contents. -/
theorem body_last (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : k0_cond2 i = 1#1) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_unfold [cc0_gptq_int4_linear]
  sl_exec_parts
  sl_step
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The first point is not the last. -/
theorem not_both (h0 : Scalar.cmpi .ne (Scalar.extui (Scalar.cmpi .eq (BitVec.ofNat 32 (i 0).val) 0#32) : BitVec 32) 0#32 = 1#1) (h1 : k0_cond2 i = 1#1) : False := by
  have key : ∀ n : Fin 14, Scalar.cmpi .ne (Scalar.extui (Scalar.cmpi .eq (BitVec.ofNat 32 n.val) 0#32) : BitVec 32) 0#32 = 1#1 →
      Scalar.cmpi .ne (Scalar.extui (Scalar.cmpi .eq (BitVec.ofNat 32 n.val) 13#32) : BitVec 32) 0#32 = 1#1 → False := by decide +kernel
  exact key (i 0) h0 h1

/-- At every point the body keeps the group table and leaves every other buffer at some contents. -/
theorem body_any (T : Buf (Elt F) (arg1.view.loc (c : Thread nD τ))) (hT : WordsOK c arg1 T) :
    res c arg1 arg2 arg3 arg4 arg5 arg6 arg7 arg8 arg9 arg10 arg11 T
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => res c arg1 arg2 arg3 arg4 arg5 arg6 arg7 arg8 arg9 arg10 arg11 T := by
  by_cases h0 : Scalar.cmpi .ne (Scalar.extui (Scalar.cmpi .eq (BitVec.ofNat 32 (i 0).val) 0#32) : BitVec 32) 0#32 = 1#1
  · by_cases h1 : k0_cond2 i = 1#1
    · exact (not_both i h0 h1).elim
    · exact body_first c i arg1 harg1 arg2 harg2 arg3 harg3 arg4 harg4 arg5 harg5 arg6 harg6 arg7 harg7 arg8 harg8 arg9 harg9 arg10 harg10 arg11 harg11 T hT h0 h1
  · by_cases h1 : k0_cond2 i = 1#1
    · exact body_last c i arg1 harg1 arg2 harg2 arg3 harg3 arg4 harg4 arg5 harg5 arg6 harg6 arg7 harg7 arg8 harg8 arg9 harg9 arg10 harg10 arg11 harg11 T hT h0 h1
    · exact body_mid c i arg1 harg1 arg2 harg2 arg3 harg3 arg4 harg4 arg5 harg5 arg6 harg6 arg7 harg7 arg8 harg8 arg9 harg9 arg10 harg10 arg11 harg11 T hT h0 h1

end Body

/-! ## The launch -/

section Launch

variable (m : (ℓ : Loc nD τ sig) → Buf (Elt F) ℓ) (ρ : Dev nD → PrngReg)

/-- What the buffers hold when the region is entered. -/
abbrev V₀ (c : Dev nD) : Valuation τ sig (Elt F) := StableHlo.after ([hostOps0 (F := F)].flatten) (fun b => m (c, b))

/-- The group table's words. -/
abbrev tbl : pre0.Contents (Elt F) := fun k => V₀ m (0 : Dev nD) (Proc.devRef .tc (pre0.ref k))

/-- The group table's words, admitted by the pipeline. -/
abbrev adm : (p : Fin 1) → (pcfgs (F := F) p).Adm := fun _ => ⟨tbl m, trivial⟩

theorem V_arg0 (c : Dev nD) : V₀ m c (Proc.devRef .tc main_arg0) = m ((c.tc : Thread nD τ).loc main_arg0) := by
  show StableHlo.after (hostOps0 (F := F)) (fun b => m (c, b)) _ = _
  after_results
theorem V_arg1 (c : Dev nD) : V₀ m c (Proc.devRef .tc main_arg1) = m ((c.tc : Thread nD τ).loc main_arg1) := by
  show StableHlo.after (hostOps0 (F := F)) (fun b => m (c, b)) _ = _
  after_results
theorem V_arg2 (c : Dev nD) : V₀ m c (Proc.devRef .tc main_arg2) = m ((c.tc : Thread nD τ).loc main_arg2) := by
  show StableHlo.after (hostOps0 (F := F)) (fun b => m (c, b)) _ = _
  after_results
theorem V_arg3 (c : Dev nD) : V₀ m c (Proc.devRef .tc main_arg3) = m ((c.tc : Thread nD τ).loc main_arg3) := by
  show StableHlo.after (hostOps0 (F := F)) (fun b => m (c, b)) _ = _
  after_results
theorem V_arg4 (c : Dev nD) : V₀ m c (Proc.devRef .tc main_arg4) = m ((c.tc : Thread nD τ).loc main_arg4) := by
  show StableHlo.after (hostOps0 (F := F)) (fun b => m (c, b)) _ = _
  after_results

/-- Every word of the launch memory's group table names a group. -/
def GroupsOK : Prop := ∀ (c : Dev nD) (y : S14336.Idx), (m ((c.tc : Thread nD τ).loc main_arg4) y : BitVec 32).toNat < 112

theorem wordsOK (hG : GroupsOK m) (c : Dev nD) : WordsOK (F := F) c (Memref.whole main_arg4) (tbl m 0) := by
  intro r x
  have e : (tbl m 0 : S14336.Idx → BitVec 32) = m (((0 : Dev nD).tc : Thread nD τ).loc main_arg4) := V_arg4 m 0
  have h := hG 0 ((Memref.whole main_arg4).view.emb (r.idx x))
  rw [← e] at h
  exact h

end Launch

end Cert.Proof.KernelIdealFrame

end
-- ==== Proof.LaunchK.lean ====
/- The launch of `Kernel`: from the body at every point to the frame of the whole program. -/
module

public import proofs.«01_k».proof.Proof.FrameK

@[expose] public section

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

variable (m : (ℓ : Loc nD τ sig) → Buf (Elt F) ℓ) (ρ : Dev nD → PrngReg)

/-- The pipeline at the group table's words. -/
abbrev cfgM : Pipeline.Cfg sig Λ₀ := cfg0 (adm m 0)

/-- Proof data that asks nothing of what the staging buffers hold. -/
def rdat (c : Dev nD) : Pipeline.RDat τ (Elt F) Unit ℕ (UU nD τ) ℕ (cfgM m) c where
  A w := V₀ m c (Proc.devRef .tc (Pipeline.arrRef (cfgM m).spec w))
  after _ _ _ _ := True
  Φ _ := iprop(Pipeline.ΦA (cfgM m).spec c ∗ Pipeline.ΦT pre0 (tbl m) c)
  q _ := fullShare
  owed _ := 0

/-- The table's half the region hands the body. -/
theorem PhiT_eq (c : Dev nD) : (Pipeline.ΦT pre0 (tbl m) c : sProp 𝕄)
    = iprop((Memref.whole main_arg4).view.loc (c : Thread nD τ) ↦[(Memref.whole main_arg4).view.set]{fullShare.right} (tbl m 0)) := by
  unfold Pipeline.ΦT Pipeline.prefHeld
  rw [show (Finset.univ : Finset (Fin 1)) = {(0 : Fin 1)} from by decide, bigSep_singleton]
  rw [show (Memref.whole main_arg4).view.set = Finset.univ from by simp]
  rfl

/-- The scratch buffers, each at any contents, and the generator register. -/
theorem PhiA_eq (c : Dev nD) : (Pipeline.ΦA (cfgM m).spec c : sProp 𝕄)
    = iprop(((∃ f, (Memref.whole cc0_scratch0).view.loc (c : Thread nD τ) ↦[(Memref.whole cc0_scratch0).view.set]{fullShare} f)
      ∗ (∃ f, (Memref.whole cc0_scratch1).view.loc (c : Thread nD τ) ↦[(Memref.whole cc0_scratch1).view.set]{fullShare} f)
      ∗ (∃ f, (Memref.whole cc0_scratch2).view.loc (c : Thread nD τ) ↦[(Memref.whole cc0_scratch2).view.set]{fullShare} f)
      ∗ (∃ f, (Memref.whole cc0_scratch3).view.loc (c : Thread nD τ) ↦[(Memref.whole cc0_scratch3).view.set]{fullShare} f)
      ∗ (∃ f, (Memref.whole cc0_scratch4).view.loc (c : Thread nD τ) ↦[(Memref.whole cc0_scratch4).view.set]{fullShare} f))
      ∗ ∃ r, prngReg c r) := by
  unfold Pipeline.ΦA
  rw [show (Pipeline.scopedRest (cfgM m).spec c : sProp 𝕄) = _ from scopedRest0_eq c]
  simp only [show (Memref.whole cc0_scratch0).view.set = Finset.univ from by simp,
    show (Memref.whole cc0_scratch1).view.set = Finset.univ from by simp,
    show (Memref.whole cc0_scratch2).view.set = Finset.univ from by simp,
    show (Memref.whole cc0_scratch3).view.set = Finset.univ from by simp,
    show (Memref.whole cc0_scratch4).view.set = Finset.univ from by simp]

/-- The kernel's definition at a point is its body on the point's staging buffers. -/
theorem defs₀_row (t : Fin (cfgM m).N) :
    defs₀ (F := F) .tc (cfgM m).body ((cfgM m).bodyArgs t ((cfgM m).slots t))
      = cc0_gptq_int4_linear (F := F) (grid0.coords t) (Memref.whole main_arg4) (Memref.isWhole_whole _)
        (spec0_0.stage ((cfgM m).slots t 0)) (hstage0_0 (((cfgM m).slots t 0).cast nbuf0_0))
        (spec0_1.stage ((cfgM m).slots t 1)) (hstage0_1 (((cfgM m).slots t 1).cast nbuf0_1))
        (spec0_2.stage ((cfgM m).slots t 2)) (hstage0_2 (((cfgM m).slots t 2).cast nbuf0_2))
        (spec0_3.stage ((cfgM m).slots t 3)) (hstage0_3 (((cfgM m).slots t 3).cast nbuf0_3))
        (spec0_4.stage ((cfgM m).slots t 4)) (hstage0_4 (((cfgM m).slots t 4).cast nbuf0_4))
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) := by
  unfold defs₀; rw [Defs.onTc_tc]

set_option pp.maxSteps 150 in
/-- The body meets the specification that asks nothing of the staging contents. -/
theorem hbody (hG : GroupsOK m) (c : Dev nD) : (rdat m c).BodyObligation (defs₀ (F := F)) 𝒱₀ () Set.univ := by
  intro t Y _
  rw [Gen.bigSep_W0, Gen.bigSep_W0, defs₀_row]
  show iprop(((Pipeline.ΦA (cfgM m).spec c ∗ Pipeline.ΦT pre0 (tbl m) c) ∗ (rdat m c).owesAt () t.castSucc ∗ _)) ⊢ wp frame _ Set.univ _
    fun _ => iprop((Pipeline.ΦA (cfgM m).spec c ∗ Pipeline.ΦT pre0 (tbl m) c) ∗ (rdat m c).owesAt () t.succ ∗ _)
  rw [PhiA_eq, PhiT_eq]
  rw [show (rdat m c).owesAt () t.succ = (rdat m c).owesAt () t.castSucc from rfl]
  have hc := body_any (F := F) c (grid0.coords t) (Memref.whole main_arg4) (Memref.isWhole_whole _)
        (spec0_0.stage ((cfgM m).slots t 0)) (hstage0_0 (((cfgM m).slots t 0).cast nbuf0_0))
        (spec0_1.stage ((cfgM m).slots t 1)) (hstage0_1 (((cfgM m).slots t 1).cast nbuf0_1))
        (spec0_2.stage ((cfgM m).slots t 2)) (hstage0_2 (((cfgM m).slots t 2).cast nbuf0_2))
        (spec0_3.stage ((cfgM m).slots t 3)) (hstage0_3 (((cfgM m).slots t 3).cast nbuf0_3))
        (spec0_4.stage ((cfgM m).slots t 4)) (hstage0_4 (((cfgM m).slots t 4).cast nbuf0_4))
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (tbl m 0) (wordsOK m hG c)
  refine BIBase.Entails.trans ?_ (((sep_mono_left (Q := iprop((∃ r, prngReg c r) ∗ (rdat m c).owesAt () t.castSucc)) hc).trans (wp_frame_r _ _ _)).trans
    (wp_mono _ _ _ fun _ => ?_))
  · unfold owns
    iintro ⟨⟨⟨⟨H7, H8, H9, H10, H11⟩, Hr⟩, H1⟩, Ho, ⟨%f2, %e2, H2⟩, ⟨%f3, %e3, H3⟩, ⟨%f4, %e4, H4⟩, ⟨%f5, %e5, H5⟩, ⟨%f6, %e6, H6⟩⟩
    isplitr [Hr Ho]
    · unfold res
      isplitl [H1]; · iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexact H7
      isplitl [H8]; · iexact H8
      isplitl [H9]; · iexact H9
      isplitl [H10]; · iexact H10
      iexact H11
    isplitl [Hr]; · iexact Hr
    iexact Ho
  · unfold res owns
    iintro ⟨⟨H1, ⟨%f2, H2⟩, ⟨%f3, H3⟩, ⟨%f4, H4⟩, ⟨%f5, H5⟩, ⟨%f6, H6⟩, H7, H8, H9, H10, H11⟩, Hr, Ho⟩
    isplitl [H1 H7 H8 H9 H10 H11 Hr]
    · isplitr [H1]
      · isplitr [Hr]
        · isplitl [H7]; · iexact H7
          isplitl [H8]; · iexact H8
          isplitl [H9]; · iexact H9
          isplitl [H10]; · iexact H10
          iexact H11
        iexact Hr
      iexact H1
    isplitl [Ho]; · iexact Ho
    isplitl [H2]
    · iexists ((((cfgM m).win 0).stage ((cfgM m).slots t 0)).view.read (Elt F) f2); isplitr; · ipureintro; trivial
      iexists f2; isplitr; · ipureintro; rfl
      iexact H2
    isplitl [H3]
    · iexists ((((cfgM m).win 1).stage ((cfgM m).slots t 1)).view.read (Elt F) f3); isplitr; · ipureintro; trivial
      iexists f3; isplitr; · ipureintro; rfl
      iexact H3
    isplitl [H4]
    · iexists ((((cfgM m).win 2).stage ((cfgM m).slots t 2)).view.read (Elt F) f4); isplitr; · ipureintro; trivial
      iexists f4; isplitr; · ipureintro; rfl
      iexact H4
    isplitl [H5]
    · iexists ((((cfgM m).win 3).stage ((cfgM m).slots t 3)).view.read (Elt F) f5); isplitr; · ipureintro; trivial
      iexists f5; isplitr; · ipureintro; rfl
      iexact H5
    iexists ((((cfgM m).win 4).stage ((cfgM m).slots t 4)).view.read (Elt F) f6); isplitr; · ipureintro; trivial
    iexists f6; isplitr; · ipureintro; rfl
    iexact H6

theorem share_eq (c : Dev nD) (w) : (rdat m c).share w = fullShare := by
  unfold Pipeline.RDat.share; split <;> rfl

/-- The line after the region touches arrays and bypassing buffers only. -/
theorem sfx_sub : ∀ ops ∈ ([hostOps1] : List (List (HloOp τ sig (Elt F)))), ∀ op ∈ ops,
    op.bufs ⊆ Pipeline.tailRefs sig pre0 spec0 := by
  intro ops hops op hop
  rw [List.mem_singleton] at hops; subst hops
  refine Pipeline.sub_tailRefs pre0 spec0 op ((List.forall_iff_forall_mem.mp hostOps1_sub) op hop) ?_
  simp only [hostOps1, List.mem_cons, List.mem_nil_iff, or_false] at hop
  subst hop
  intro k; fin_cases k
  simp only [StableHlo.reshape_bufs, Finset.mem_insert, Finset.mem_singleton, not_or]
  and_intros <;> exact StableHlo.devRef_ne_of_ne (by decide)

/-- It opens no buffer. -/
theorem sfx_fresh : ∀ ops ∈ ([hostOps1] : List (List (HloOp τ sig (Elt F)))), ∀ op ∈ ops, op.fresh = ∅ := by
  intro ops hops op hop
  rw [List.mem_singleton] at hops; subst hops
  simp only [hostOps1, List.mem_cons, List.mem_nil_iff, or_false] at hop
  subst hop
  rfl

/-- It writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops; subst hops
  simp only [hostOps1, List.mem_cons, List.mem_nil_iff, or_false] at hop
  subst hop
  intro w; fin_cases w <;> simp only [StableHlo.reshape_writes, Finset.mem_singleton] <;> exact StableHlo.devRef_ne_of_ne (by decide)

/-- It writes the result alone. -/
theorem sfx_writes : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop
  rw [List.mem_singleton] at hops; subst hops
  simp only [hostOps1, List.mem_cons, List.mem_nil_iff, or_false] at hop
  subst hop
  intro b hb; simp only [StableHlo.reshape_writes, Finset.mem_singleton] at hb; cases Proc.devRef_injective _ hb; decide

/-- Nor does the line before it open a buffer. -/
theorem fresh0 : (hostOps0 : List (HloOp τ sig (Elt F))).Forall fun op => op.fresh = ∅ := by
  simp only [hostOps0, List.Forall]; rfl

set_option backward.isDefEq.respectTransparency.types false in
/-- The program runs from any launch memory whose group table names groups, and keeps what no window writes. -/
theorem run (hG : GroupsOK m) :
    θ_run (defs (F := F)) (onTc (τ := τ) (main (F := F))) ⟨m, fun _ => 0, ρ⟩ (fun r =>
      Pipeline.RDat.FramePostR (cfgM m) (rdat m) {main_v2} (fun c b => V₀ m c (Proc.devRef .tc b)) r ∧ r.2.sem = fun _ => 0) :=
  Pipeline.RDat.θ_run_frameP_around_T (pcfgs (F := F)) (adm m) 0 Gen.launch0 (defs₀ (F := F)) 𝒱₀ (rdat m) {main_v2} m ρ (main (F := F))
    (hbody m hG) (share_eq m) (fun _ _ => rfl) (V₀ m) [hostOps1 (F := F)]
    sfx_sub sfx_fresh sfx_keeps sfx_writes
    (Pipeline.hmainP_around (pcfgs (F := F)) 0 (defs₀ (F := F)) 𝒱₀ m main [hostOps0 (F := F)] [hostOps1 (F := F)]
      (by simp only [List.Forall]; exact hostOps0_sub) (by simp only [List.Forall]; exact fresh0) main_chain)
    (fun _ _ => rfl)
    (fun c k => by obtain rfl : c = 0 := Subsingleton.elim _ _; rfl)
    (fun _ _ => rfl)
    (Q' := fun r => Pipeline.RDat.FramePostR (cfgM m) (rdat m) {main_v2} (fun c b => V₀ m c (Proc.devRef .tc b)) r ∧ r.2.sem = fun _ => 0)
    (hQ' := fun _ h => h)

/-- The frame: the program runs from any launch memory whose group table names groups, its arguments end unchanged
    and every semaphore reads zero. -/
theorem frame (hG : GroupsOK m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0 \ {main_v2})).trans (V_arg0 m c),
     (Pipeline.RDat.FramePostR.arr_in h.1 c 1 rfl).trans (V_arg1 m c),
     (Pipeline.RDat.FramePostR.arr_in h.1 c 2 rfl).trans (V_arg2 m c),
     (Pipeline.RDat.FramePostR.arr_in h.1 c 3 rfl).trans (V_arg3 m c),
     ((h.1 c).2 main_arg4 (by decide : main_arg4 ∈ Pipeline.restRefs sig spec0 \ {main_v2})).trans (V_arg4 m c)⟩, h.2⟩) (run m ρ hG)

end Cert.Proof.KernelFrame

end
-- ==== Proof.LaunchKI.lean ====
/- The launch of `KernelIdeal`: from the body at every point to the frame of the whole program. -/
module

public import proofs.«01_k».proof.Proof.FrameKI

@[expose] public section

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

/-- The pipeline at the group table's words. -/
abbrev cfgM : Pipeline.Cfg sig Λ₀ := cfg0 (adm m 0)

/-- Proof data that asks nothing of what the staging buffers hold. -/
def rdat (c : Dev nD) : Pipeline.RDat τ (Elt F) Unit ℕ (UU nD τ) ℕ (cfgM m) c where
  A w := V₀ m c (Proc.devRef .tc (Pipeline.arrRef (cfgM m).spec w))
  after _ _ _ _ := True
  Φ _ := iprop(Pipeline.ΦA (cfgM m).spec c ∗ Pipeline.ΦT pre0 (tbl m) c)
  q _ := fullShare
  owed _ := 0

/-- The table's half the region hands the body. -/
theorem PhiT_eq (c : Dev nD) : (Pipeline.ΦT pre0 (tbl m) c : sProp 𝕄)
    = iprop((Memref.whole main_arg4).view.loc (c : Thread nD τ) ↦[(Memref.whole main_arg4).view.set]{fullShare.right} (tbl m 0)) := by
  unfold Pipeline.ΦT Pipeline.prefHeld
  rw [show (Finset.univ : Finset (Fin 1)) = {(0 : Fin 1)} from by decide, bigSep_singleton]
  rw [show (Memref.whole main_arg4).view.set = Finset.univ from by simp]
  rfl

/-- The scratch buffers, each at any contents, and the generator register. -/
theorem PhiA_eq (c : Dev nD) : (Pipeline.ΦA (cfgM m).spec c : sProp 𝕄)
    = iprop(((∃ f, (Memref.whole cc0_scratch0).view.loc (c : Thread nD τ) ↦[(Memref.whole cc0_scratch0).view.set]{fullShare} f)
      ∗ (∃ f, (Memref.whole cc0_scratch1).view.loc (c : Thread nD τ) ↦[(Memref.whole cc0_scratch1).view.set]{fullShare} f)
      ∗ (∃ f, (Memref.whole cc0_scratch2).view.loc (c : Thread nD τ) ↦[(Memref.whole cc0_scratch2).view.set]{fullShare} f)
      ∗ (∃ f, (Memref.whole cc0_scratch3).view.loc (c : Thread nD τ) ↦[(Memref.whole cc0_scratch3).view.set]{fullShare} f)
      ∗ (∃ f, (Memref.whole cc0_scratch4).view.loc (c : Thread nD τ) ↦[(Memref.whole cc0_scratch4).view.set]{fullShare} f))
      ∗ ∃ r, prngReg c r) := by
  unfold Pipeline.ΦA
  rw [show (Pipeline.scopedRest (cfgM m).spec c : sProp 𝕄) = _ from scopedRest0_eq c]
  simp only [show (Memref.whole cc0_scratch0).view.set = Finset.univ from by simp,
    show (Memref.whole cc0_scratch1).view.set = Finset.univ from by simp,
    show (Memref.whole cc0_scratch2).view.set = Finset.univ from by simp,
    show (Memref.whole cc0_scratch3).view.set = Finset.univ from by simp,
    show (Memref.whole cc0_scratch4).view.set = Finset.univ from by simp]

/-- The kernel's definition at a point is its body on the point's staging buffers. -/
theorem defs₀_row (t : Fin (cfgM m).N) :
    defs₀ (F := F) .tc (cfgM m).body ((cfgM m).bodyArgs t ((cfgM m).slots t))
      = cc0_gptq_int4_linear (F := F) (grid0.coords t) (Memref.whole main_arg4) (Memref.isWhole_whole _)
        (spec0_0.stage ((cfgM m).slots t 0)) (hstage0_0 (((cfgM m).slots t 0).cast nbuf0_0))
        (spec0_1.stage ((cfgM m).slots t 1)) (hstage0_1 (((cfgM m).slots t 1).cast nbuf0_1))
        (spec0_2.stage ((cfgM m).slots t 2)) (hstage0_2 (((cfgM m).slots t 2).cast nbuf0_2))
        (spec0_3.stage ((cfgM m).slots t 3)) (hstage0_3 (((cfgM m).slots t 3).cast nbuf0_3))
        (spec0_4.stage ((cfgM m).slots t 4)) (hstage0_4 (((cfgM m).slots t 4).cast nbuf0_4))
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) := by
  unfold defs₀; rw [Defs.onTc_tc]

set_option pp.maxSteps 150 in
/-- The body meets the specification that asks nothing of the staging contents. -/
theorem hbody (hG : GroupsOK m) (c : Dev nD) : (rdat m c).BodyObligation (defs₀ (F := F)) 𝒱₀ () Set.univ := by
  intro t Y _
  rw [Gen.bigSep_W0, Gen.bigSep_W0, defs₀_row]
  show iprop(((Pipeline.ΦA (cfgM m).spec c ∗ Pipeline.ΦT pre0 (tbl m) c) ∗ (rdat m c).owesAt () t.castSucc ∗ _)) ⊢ wp frame _ Set.univ _
    fun _ => iprop((Pipeline.ΦA (cfgM m).spec c ∗ Pipeline.ΦT pre0 (tbl m) c) ∗ (rdat m c).owesAt () t.succ ∗ _)
  rw [PhiA_eq, PhiT_eq]
  rw [show (rdat m c).owesAt () t.succ = (rdat m c).owesAt () t.castSucc from rfl]
  have hc := body_any (F := F) c (grid0.coords t) (Memref.whole main_arg4) (Memref.isWhole_whole _)
        (spec0_0.stage ((cfgM m).slots t 0)) (hstage0_0 (((cfgM m).slots t 0).cast nbuf0_0))
        (spec0_1.stage ((cfgM m).slots t 1)) (hstage0_1 (((cfgM m).slots t 1).cast nbuf0_1))
        (spec0_2.stage ((cfgM m).slots t 2)) (hstage0_2 (((cfgM m).slots t 2).cast nbuf0_2))
        (spec0_3.stage ((cfgM m).slots t 3)) (hstage0_3 (((cfgM m).slots t 3).cast nbuf0_3))
        (spec0_4.stage ((cfgM m).slots t 4)) (hstage0_4 (((cfgM m).slots t 4).cast nbuf0_4))
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (tbl m 0) (wordsOK m hG c)
  refine BIBase.Entails.trans ?_ (((sep_mono_left (Q := iprop((∃ r, prngReg c r) ∗ (rdat m c).owesAt () t.castSucc)) hc).trans (wp_frame_r _ _ _)).trans
    (wp_mono _ _ _ fun _ => ?_))
  · unfold owns
    iintro ⟨⟨⟨⟨H7, H8, H9, H10, H11⟩, Hr⟩, H1⟩, Ho, ⟨%f2, %e2, H2⟩, ⟨%f3, %e3, H3⟩, ⟨%f4, %e4, H4⟩, ⟨%f5, %e5, H5⟩, ⟨%f6, %e6, H6⟩⟩
    isplitr [Hr Ho]
    · unfold res
      isplitl [H1]; · iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexact H7
      isplitl [H8]; · iexact H8
      isplitl [H9]; · iexact H9
      isplitl [H10]; · iexact H10
      iexact H11
    isplitl [Hr]; · iexact Hr
    iexact Ho
  · unfold res owns
    iintro ⟨⟨H1, ⟨%f2, H2⟩, ⟨%f3, H3⟩, ⟨%f4, H4⟩, ⟨%f5, H5⟩, ⟨%f6, H6⟩, H7, H8, H9, H10, H11⟩, Hr, Ho⟩
    isplitl [H1 H7 H8 H9 H10 H11 Hr]
    · isplitr [H1]
      · isplitr [Hr]
        · isplitl [H7]; · iexact H7
          isplitl [H8]; · iexact H8
          isplitl [H9]; · iexact H9
          isplitl [H10]; · iexact H10
          iexact H11
        iexact Hr
      iexact H1
    isplitl [Ho]; · iexact Ho
    isplitl [H2]
    · iexists ((((cfgM m).win 0).stage ((cfgM m).slots t 0)).view.read (Elt F) f2); isplitr; · ipureintro; trivial
      iexists f2; isplitr; · ipureintro; rfl
      iexact H2
    isplitl [H3]
    · iexists ((((cfgM m).win 1).stage ((cfgM m).slots t 1)).view.read (Elt F) f3); isplitr; · ipureintro; trivial
      iexists f3; isplitr; · ipureintro; rfl
      iexact H3
    isplitl [H4]
    · iexists ((((cfgM m).win 2).stage ((cfgM m).slots t 2)).view.read (Elt F) f4); isplitr; · ipureintro; trivial
      iexists f4; isplitr; · ipureintro; rfl
      iexact H4
    isplitl [H5]
    · iexists ((((cfgM m).win 3).stage ((cfgM m).slots t 3)).view.read (Elt F) f5); isplitr; · ipureintro; trivial
      iexists f5; isplitr; · ipureintro; rfl
      iexact H5
    iexists ((((cfgM m).win 4).stage ((cfgM m).slots t 4)).view.read (Elt F) f6); isplitr; · ipureintro; trivial
    iexists f6; isplitr; · ipureintro; rfl
    iexact H6

theorem share_eq (c : Dev nD) (w) : (rdat m c).share w = fullShare := by
  unfold Pipeline.RDat.share; split <;> rfl

/-- The line after the region touches arrays and bypassing buffers only. -/
theorem sfx_sub : ∀ ops ∈ ([hostOps1] : List (List (HloOp τ sig (Elt F)))), ∀ op ∈ ops,
    op.bufs ⊆ Pipeline.tailRefs sig pre0 spec0 := by
  intro ops hops op hop
  rw [List.mem_singleton] at hops; subst hops
  refine Pipeline.sub_tailRefs pre0 spec0 op ((List.forall_iff_forall_mem.mp hostOps1_sub) op hop) ?_
  simp only [hostOps1, List.mem_cons, List.mem_nil_iff, or_false] at hop
  subst hop
  intro k; fin_cases k
  simp only [StableHlo.reshape_bufs, Finset.mem_insert, Finset.mem_singleton, not_or]
  and_intros <;> exact StableHlo.devRef_ne_of_ne (by decide)

/-- It opens no buffer. -/
theorem sfx_fresh : ∀ ops ∈ ([hostOps1] : List (List (HloOp τ sig (Elt F)))), ∀ op ∈ ops, op.fresh = ∅ := by
  intro ops hops op hop
  rw [List.mem_singleton] at hops; subst hops
  simp only [hostOps1, List.mem_cons, List.mem_nil_iff, or_false] at hop
  subst hop
  rfl

/-- It writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops; subst hops
  simp only [hostOps1, List.mem_cons, List.mem_nil_iff, or_false] at hop
  subst hop
  intro w; fin_cases w <;> simp only [StableHlo.reshape_writes, Finset.mem_singleton] <;> exact StableHlo.devRef_ne_of_ne (by decide)

/-- It writes the result alone. -/
theorem sfx_writes : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop
  rw [List.mem_singleton] at hops; subst hops
  simp only [hostOps1, List.mem_cons, List.mem_nil_iff, or_false] at hop
  subst hop
  intro b hb; simp only [StableHlo.reshape_writes, Finset.mem_singleton] at hb; cases Proc.devRef_injective _ hb; decide

/-- Nor does the line before it open a buffer. -/
theorem fresh0 : (hostOps0 : List (HloOp τ sig (Elt F))).Forall fun op => op.fresh = ∅ := by
  simp only [hostOps0, List.Forall]; rfl

set_option backward.isDefEq.respectTransparency.types false in
/-- The program runs from any launch memory whose group table names groups, and keeps what no window writes. -/
theorem run (hG : GroupsOK m) :
    θ_run (defs (F := F)) (onTc (τ := τ) (main (F := F))) ⟨m, fun _ => 0, ρ⟩ (fun r =>
      Pipeline.RDat.FramePostR (cfgM m) (rdat m) {main_v2} (fun c b => V₀ m c (Proc.devRef .tc b)) r ∧ r.2.sem = fun _ => 0) :=
  Pipeline.RDat.θ_run_frameP_around_T (pcfgs (F := F)) (adm m) 0 Gen.launch0 (defs₀ (F := F)) 𝒱₀ (rdat m) {main_v2} m ρ (main (F := F))
    (hbody m hG) (share_eq m) (fun _ _ => rfl) (V₀ m) [hostOps1 (F := F)]
    sfx_sub sfx_fresh sfx_keeps sfx_writes
    (Pipeline.hmainP_around (pcfgs (F := F)) 0 (defs₀ (F := F)) 𝒱₀ m main [hostOps0 (F := F)] [hostOps1 (F := F)]
      (by simp only [List.Forall]; exact hostOps0_sub) (by simp only [List.Forall]; exact fresh0) main_chain)
    (fun _ _ => rfl)
    (fun c k => by obtain rfl : c = 0 := Subsingleton.elim _ _; rfl)
    (fun _ _ => rfl)
    (Q' := fun r => Pipeline.RDat.FramePostR (cfgM m) (rdat m) {main_v2} (fun c b => V₀ m c (Proc.devRef .tc b)) r ∧ r.2.sem = fun _ => 0)
    (hQ' := fun _ h => h)

/-- The frame: the program runs from any launch memory whose group table names groups, its arguments end unchanged
    and every semaphore reads zero. -/
theorem frame (hG : GroupsOK m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0 \ {main_v2})).trans (V_arg0 m c),
     (Pipeline.RDat.FramePostR.arr_in h.1 c 1 rfl).trans (V_arg1 m c),
     (Pipeline.RDat.FramePostR.arr_in h.1 c 2 rfl).trans (V_arg2 m c),
     (Pipeline.RDat.FramePostR.arr_in h.1 c 3 rfl).trans (V_arg3 m c),
     ((h.1 c).2 main_arg4 (by decide : main_arg4 ∈ Pipeline.restRefs sig spec0 \ {main_v2})).trans (V_arg4 m c)⟩, h.2⟩) (run m ρ hG)

end Cert.Proof.KernelIdealFrame

end
-- ==== Proof.FrameR.lean ====
/- The frame of the reference: a program of host operations alone runs to the end and keeps its arguments. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The reference runs from any launch memory, its arguments end unchanged and every semaphore reads zero: it has none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

end Cert.Proof

end
-- ==== Proof.Pre.lean ====
/- What the preconditions say, in plain terms. -/
module

public import proofs.«01_k».proof.Defs
public import proofs.«01_k».proof.Proof.Gen.Pre_groups
public import proofs.«01_k».proof.Proof.Gen.Pre_finite

public import Idealize.ShloMosaic.Lib.StableHlo.Predicate
public import Idealize.ShloMosaic.Lib.ReduceAll
public import Idealize.ShloMosaic.Lib.Pointwise

@[expose] public section

namespace Cert.Proof.Pre

open Idealize.ShloMosaic Idealize.ShloMosaic.TcCoe

theorem andi_ofBool (a b : Bool) : IntOp.andi (BitVec.ofBool a) (BitVec.ofBool b) = BitVec.ofBool (a && b) := by
  cases a <;> cases b <;> decide

theorem ofBool_eq_one (a : Bool) : BitVec.ofBool a = 1#1 ↔ a = true := by cases a <;> decide

/-- The precondition `groups` says every word of the group table, read as a signed number, lies in 0..111. -/
theorem groups_lt {F : FTy → Type} [FloatOps F] [Cert.Pre_groups.Facts] (a0 a1 a2 a3) (g : IVec Cert.Pre_groups.S14336 32)
    (h : Cert.Pre_groups.fn (F := F) a0 a1 a2 a3 g = fun _ => 1#1) (y : Cert.Pre_groups.S14336.Idx) : (g y).toNat < 112 := by
  have e := congrFun h y
  simp only [Cert.Pre_groups.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

instance : Subsingleton Cert.Pre_finite.S_.Idx := ⟨fun a b => funext fun i => i.elim0⟩

/-- A value of finite magnitude is a real number's. -/
theorem real_of_abs_lt (x : EReal) (h : FloatOps.cmpf (F := Ideal) .olt (FloatOps.absf (F := Ideal) (φ := .bf16) x) (FloatOps.ofBits (F := Ideal) .bf16 0x7F80#16) = 1#1) :
    ∃ r : ℝ, x = (r : EReal) := by
  have htop : Ideal.ofBits .bf16 0x7F80#16 = ⊤ := by simp [Ideal.ofBits, Ideal.ieee]
  have h' : BitVec.ofBool (decide (max x (-x) < Ideal.ofBits .bf16 0x7F80#16)) = 1#1 := h
  rw [htop, ofBool_eq_one, decide_eq_true_eq, max_lt_iff] at h'
  obtain ⟨h1, h2⟩ := h'
  induction x with
  | bot => exact absurd h2 (by simp)
  | top => exact absurd h1 (by simp)
  | coe r => exact ⟨r, rfl⟩

/-- The precondition `finite` says in addition that no activation and no scale is infinite. -/
theorem finite_facts [Cert.Pre_finite.Facts] (x : FVec Ideal Cert.Pre_finite.S128x1x14336 .bf16) (q) (s : FVec Ideal Cert.Pre_finite.S112x3584 .bf16) (z) (g : IVec Cert.Pre_finite.S14336 32)
    (h : Cert.Pre_finite.fn (F := Ideal) x q s z g = fun _ => 1#1) :
    (∀ y, (g y).toNat < 112) ∧ (∀ y, ∃ r : ℝ, x y = (r : EReal)) ∧ ∀ y, ∃ r : ℝ, s y = (r : EReal) := by
  have e := congrFun h (fun i => i.elim0)
  simp only [Cert.Pre_finite.fn] at e
  obtain ⟨e12, e3⟩ := IntOp.andi_eq_one.1 e
  obtain ⟨e1, e2⟩ := IntOp.andi_eq_one.1 e12
  refine ⟨fun y => ?_, fun y => ?_, fun y => ?_⟩
  · have e := Host.reduce_andi_all _ _ _ _ _ e1 y
    simp only [andi, cmpi, broadcastInDim, constantI, IntOp.cmpi, andi_ofBool, ofBool_eq_one, Bool.and_eq_true] at e
    obtain ⟨hge, hlt⟩ := e
    simp only [BitVec.sle, BitVec.slt, decide_eq_true_eq, BitVec.toInt, BitVec.toNat_ofNat] at hge hlt
    omega
  · exact real_of_abs_lt _ (Host.reduce_andi_all _ _ _ _ _ e2 y)
  · exact real_of_abs_lt _ (Host.reduce_andi_all _ _ _ _ _ e3 y)

end Cert.Proof.Pre
-- ==== Proof.ValTile.lean ====
/- One tile of the kernel's accumulation and of its last step, written once; every tile's payload is this one, whatever the
   places at which the printed program cuts it. -/
module

public import proofs.«01_k».proof.Proof.Gen.KernelIdeal.Skeleton
public import Idealize.ShloMosaic.Lib.Pointwise
public import Idealize.ShloMosaic.Lib.WritesUnit
public import Idealize.ShloMosaic.Lib.VecWindow

@[expose] public section

noncomputable section

namespace Cert.Proof.Val

open Cert.KernelIdeal Cert.KernelIdeal.Gen
open Idealize.ShloMosaic Idealize.ShloMosaic.Tactic

variable {F : FTy → Type} [FloatOps F]

/-- The codes less eight, one row of words unpacked into eight rows. -/
def codes (q : Vec F S128x128 .i32) : IVec S1024x128 32 :=
  shapeCast S1024x128 (concatenate S128x8x128 1
    [⟨S128x1x128, shapeCast S128x1x128 (shrsi (shli (xori q (broadcast S128x128 2290649224#32)) (broadcast S128x128 28#32)) (broadcast S128x128 28#32)) shapeCasts_S128x128_S128x1x128⟩,
     ⟨S128x1x128, shapeCast S128x1x128 (shrsi (shli (xori q (broadcast S128x128 2290649224#32)) (broadcast S128x128 24#32)) (broadcast S128x128 28#32)) shapeCasts_S128x128_S128x1x128⟩,
     ⟨S128x1x128, shapeCast S128x1x128 (shrsi (shli (xori q (broadcast S128x128 2290649224#32)) (broadcast S128x128 20#32)) (broadcast S128x128 28#32)) shapeCasts_S128x128_S128x1x128⟩,
     ⟨S128x1x128, shapeCast S128x1x128 (shrsi (shli (xori q (broadcast S128x128 2290649224#32)) (broadcast S128x128 16#32)) (broadcast S128x128 28#32)) shapeCasts_S128x128_S128x1x128⟩,
     ⟨S128x1x128, shapeCast S128x1x128 (shrsi (shli (xori q (broadcast S128x128 2290649224#32)) (broadcast S128x128 12#32)) (broadcast S128x128 28#32)) shapeCasts_S128x128_S128x1x128⟩,
     ⟨S128x1x128, shapeCast S128x1x128 (shrsi (shli (xori q (broadcast S128x128 2290649224#32)) (broadcast S128x128 8#32)) (broadcast S128x128 28#32)) shapeCasts_S128x128_S128x1x128⟩,
     ⟨S128x1x128, shapeCast S128x1x128 (shrsi (shli (xori q (broadcast S128x128 2290649224#32)) (broadcast S128x128 4#32)) (broadcast S128x128 28#32)) shapeCasts_S128x128_S128x1x128⟩,
     ⟨S128x1x128, shapeCast S128x1x128 (shrsi (shli (xori q (broadcast S128x128 2290649224#32)) (broadcast S128x128 0#32)) (broadcast S128x128 28#32)) shapeCasts_S128x128_S128x1x128⟩]
    concatenates_S128x1x128_S128x1x128_S128x1x128_S128x1x128_S128x1x128_S128x1x128_S128x1x128_S128x1x128_S128x8x128_d1) shapeCasts_S128x8x128_S1024x128

/-- A slab of gathered rows as the two halves of its words give it. -/
def rows (s : Vec F S512x2x128 .bf16) : FVec F S1024x128 .bf16 :=
  interleaveRows S1024x128 (shapeCast S512x128 (rowsOfParity 0 S512x1x128 s bitcasts_S512x2x128_w16_S512x1x128_w32) shapeCasts_S512x1x128_S512x128)
    (shapeCast S512x128 (rowsOfParity 1 S512x1x128 s bitcasts_S512x2x128_w16_S512x1x128_w32) shapeCasts_S512x1x128_S512x128) bitcasts_S1024x128_w16_S512x128_w32

/-- One tile of the accumulation. -/
def tilePay (x : FVec F S128x1024 .bf16) (qa qb : Vec F S128x128 .i32) (sa sb : Vec F S512x2x128 .bf16) (acc : Vec F S128x256 .f32) : FVec F S128x256 .f32 :=
  shapeCast S128x256 (addf acc (matmul dot_S128x1024_S1024x256_S128x256_1_0_0_1_n_n none x
    (concatenate S1024x256 1 [⟨S1024x128, mulf (sitofp .bf16 (codes (F := F) qa)) (rows sa)⟩, ⟨S1024x128, mulf (sitofp .bf16 (codes (F := F) qb)) (rows sb)⟩] concatenates_S1024x128_S1024x128_S1024x256_d1)
    (constant S128x256 .f32 0x00000000#32))) shapeCasts_S128x256_S128x256

/-- The shape and place of a word tile. -/
theorem inbQ (o : ℕ) (h : o + 128 ≤ 3584) : ∀ a, (![0, o] : Fin 2 → ℕ) a + S128x128.size a ≤ S128x3584.size a :=
  Fin.forall_fin_two.mpr ⟨Nat.le_refl 128, h⟩

theorem inbS (o : ℕ) (h : o + 512 ≤ 8256) : ∀ a, (![o, 0, 0] : Fin 3 → ℕ) a + S512x2x128.size a ≤ S8256x2x128.size a :=
  Fin.forall_fin_succ.mpr ⟨h, Fin.forall_fin_two.mpr ⟨Nat.le_refl 2, Nat.le_refl 128⟩⟩

theorem inbT (o : ℕ) (h : o + 256 ≤ 3584) : ∀ a, (![0, o] : Fin 2 → ℕ) a + S128x256.size a ≤ S128x3584.size a :=
  Fin.forall_fin_two.mpr ⟨Nat.le_refl 128, h⟩

/-! ## Stores that tile the columns -/

section Tiles

variable {e : EltTy}

/-- The stores of the first `k` tiles of 256 columns, newest first, over the stores `L0`; a tile's payload may look at the
    stores before it. -/
def tiles (L0 : List (View.Piece (Elt F) S128x3584 e)) (step : (n : ℕ) → n < 14 → List (View.Piece (Elt F) S128x3584 e) → (S128x256.Idx → Elt F e)) :
    (k : ℕ) → k ≤ 14 → List (View.Piece (Elt F) S128x3584 e)
  | 0, _ => L0
  | k + 1, h => ⟨Rect.unit (s := S128x3584) ![0, 256 * k] S128x256.size (inbT _ (by omega)), step k h (tiles L0 step k (Nat.le_of_succ_le h))⟩
      :: tiles L0 step k (Nat.le_of_succ_le h)

variable {κ : Kind} {sp : Space} (v : View sig κ sp S128x3584 e) (f : v.ty.Contents (Elt F))
variable (L0 : List (View.Piece (Elt F) S128x3584 e)) (step : (n : ℕ) → n < 14 → List (View.Piece (Elt F) S128x3584 e) → (S128x256.Idx → Elt F e))

theorem tile_hit (n : ℕ) (hn : n < 14) (w : S128x256.Idx → Elt F e) (L : List (View.Piece (Elt F) S128x3584 e)) (b : Fin 128) (l : Fin 256) :
    v.read (Elt F) (v.writes (Elt F) f (⟨Rect.unit (s := S128x3584) ![0, 256 * n] S128x256.size (inbT _ (by omega)), w⟩ :: L)) (ix2 b (⟨256 * n + l.val, by omega⟩ : Fin 3584)) = w (ix2 b l) :=
  View.read_writes_cons_unit_of_mem v f (off := ![0, 256 * n]) (size := S128x256.size) _ w L _ (ix2 b l : S128x256.Idx) rfl
    (Fin.forall_fin_two.mpr ⟨by show b.val = 0 + b.val; omega, by show 256 * n + l.val = 256 * n + l.val; rfl⟩)

theorem tile_miss (k n : ℕ) (hk : k < 14) (hn : n < 14) (hne : n ≠ k) (w : S128x256.Idx → Elt F e) (L : List (View.Piece (Elt F) S128x3584 e)) (b : Fin 128) (l : Fin 256) :
    v.read (Elt F) (v.writes (Elt F) f (⟨Rect.unit (s := S128x3584) ![0, 256 * k] S128x256.size (inbT _ (by omega)), w⟩ :: L)) (ix2 b (⟨256 * n + l.val, by omega⟩ : Fin 3584))
      = v.read (Elt F) (v.writes (Elt F) f L) (ix2 b (⟨256 * n + l.val, by omega⟩ : Fin 3584)) :=
  View.read_writes_cons_unit_of_not_mem v f (off := ![0, 256 * k]) (size := S128x256.size) _ w L _ rfl 1
    (by show 256 * n + l.val < 256 * k ∨ 256 * k + 256 ≤ 256 * n + l.val; have := l.isLt; omega)

theorem tiles_ge (k : ℕ) (hk : k ≤ 14) (n : ℕ) (hn : n < 14) (h : k ≤ n) (b : Fin 128) (l : Fin 256) :
    v.read (Elt F) (v.writes (Elt F) f (tiles L0 step k hk)) (ix2 b (⟨256 * n + l.val, by omega⟩ : Fin 3584))
      = v.read (Elt F) (v.writes (Elt F) f L0) (ix2 b (⟨256 * n + l.val, by omega⟩ : Fin 3584)) := by
  induction k with
  | zero => rfl
  | succ k ih => exact (tile_miss v f k n (by omega) hn (by omega) _ _ b l).trans (ih _ (by omega))

theorem tiles_lt (k : ℕ) (hk : k ≤ 14) (n : ℕ) (hn : n < 14) (h : n < k) (b : Fin 128) (l : Fin 256) :
    v.read (Elt F) (v.writes (Elt F) f (tiles L0 step k hk)) (ix2 b (⟨256 * n + l.val, by omega⟩ : Fin 3584))
      = step n hn (tiles L0 step n (by omega)) (ix2 b l) := by
  induction k with
  | zero => exact absurd h (Nat.not_lt_zero _)
  | succ k ih =>
    by_cases hkn : n = k
    · subst hkn; exact tile_hit v f n hn _ _ b l
    · exact (tile_miss v f k n (by omega) hn hkn _ _ b l).trans (ih _ (by omega))

end Tiles

/-! ## A tile's operands -/

/-- 128 columns of the words. -/
def ldQ (q : S128x3584.Idx → Elt F .i32) (o : ℕ) (h : o + 128 ≤ 3584) : Vec F S128x128 .i32 :=
  fun y => q ((Rect.unit (s := S128x3584) ![0, o] S128x128.size (inbQ o h)).toLoadRect.idx y)

/-- 512 rows of a slab. -/
def ldS (s : S8256x2x128.Idx → Elt F .bf16) (o : ℕ) (h : o + 512 ≤ 8256) : Vec F S512x2x128 .bf16 :=
  fun y => s ((Rect.unit (s := S8256x2x128) ![o, 0, 0] S512x2x128.size (inbS o h)).toLoadRect.idx y)

/-- 256 columns of the accumulator. -/
def ldA {e : EltTy} (a : S128x3584.Idx → Elt F e) (o : ℕ) (h : o + 256 ≤ 3584) : Vec F S128x256 e :=
  fun y => a ((Rect.unit (s := S128x3584) ![0, o] S128x256.size (inbT o h)).toLoadRect.idx y)

/-- What the accumulation stores for tile `n`, over the tile `acc`. -/
def accTile (x : FVec F S128x1024 .bf16) (q : S128x3584.Idx → Elt F .i32) (s8 s9 : S8256x2x128.Idx → Elt F .bf16) (n : ℕ) (hn : n < 14)
    (acc : Vec F S128x256 .f32) : FVec F S128x256 .f32 :=
  tilePay x (ldQ q (256 * n) (by omega)) (ldQ q (256 * n + 128) (by omega)) (ldS s8 (516 * n) (by omega)) (ldS s9 (516 * n) (by omega)) acc

theorem codes_at (q : Vec F S128x128 .i32) (r : Fin 128) (k : Fin 8) (l : Fin 128) :
    codes (F := F) q (ix2 (⟨8 * r.val + k.val, by omega⟩ : Fin 1024) l) = BitVec.sshiftRight ((q (ix2 r l) ^^^ 2290649224#32) <<< (28 - 4 * k.val)) 28 := by
  fin_cases k <;> pointwise [codes] <;> simp [Nat.mul_add_mod, IntOp.shrsi, IntOp.shli, IntOp.xori] <;> rfl

theorem rows_read (s : Vec F S512x2x128 .bf16) (r : Fin 512) (p : Fin 2) (l : Fin 128) :
    rows s (ix2 (⟨2 * r.val + p.val, by omega⟩ : Fin 1024) l) = s (ix3 r p l) := by
  fin_cases p
  · pointwise [rows]
    rw [if_pos (by omega)]
    exact congrArg (fun z => s (ix3 z 0 l)) (Fin.ext (by show 2 * r.val / 2 = r.val; omega))
  · pointwise [rows]
    rw [if_neg (by omega)]
    exact congrArg (fun z => s (ix3 z 1 l)) (Fin.ext (by show (2 * r.val + 1) / 2 = r.val; omega))

/-- What a point stores in the group sums. -/
def xgNext (x : FVec F S128x1024 .bf16) (s8 : S8256x2x128.Idx → Elt F .bf16) (xg : Vec F S128x128 .f32) : FVec F S128x128 .f32 :=
  k0_pay1 x (ldS s8 7224 (by decide)) xg

/-! ## The table and the last step -/

theorem inbC (o : ℕ) (h : o + 128 ≤ 3584) : ∀ a, (![0, o] : Fin 2 → ℕ) a + S112x128.size a ≤ S112x3584.size a :=
  Fin.forall_fin_two.mpr ⟨Nat.le_refl 112, h⟩

theorem inbC2 (o : ℕ) (h : o + 256 ≤ 3584) : ∀ a, (![0, o] : Fin 2 → ℕ) a + S112x256.size a ≤ S112x3584.size a :=
  Fin.forall_fin_two.mpr ⟨Nat.le_refl 112, h⟩

theorem inbZ (o : ℕ) (h : o + 256 ≤ 3584) : ∀ a, (![0, o] : Fin 2 → ℕ) a + S56x256.size a ≤ S56x3584.size a :=
  Fin.forall_fin_two.mpr ⟨Nat.le_refl 56, h⟩

theorem inbG (o : ℕ) (h : o < 16) : ∀ a, S112x2x128.size a = 0 ∨ (![o, 0, 0] : Fin 3 → ℕ) a + (![16, 1, 1] : Fin 3 → ℕ) a * (S112x2x128.size a - 1) < S1792x2x128.size a :=
  Fin.forall_fin_succ.mpr ⟨Or.inr (by show o + 16 * 111 < 1792; omega),
    Fin.forall_fin_two.mpr ⟨Or.inr (by show 0 + 1 * 1 < 2; omega), Or.inr (by show 0 + 1 * 127 < 128; omega)⟩⟩

/-- Two vectors as the two halves of words. -/
def pairs (lo hi : FVec F S112x128 .bf16) : Vec F S112x2x128 .bf16 :=
  interleaveRows S112x2x128 (shapeCast S112x1x128 lo shapeCasts_S112x128_S112x1x128) (shapeCast S112x1x128 hi shapeCasts_S112x128_S112x1x128) bitcasts_S112x2x128_w16_S112x1x128_w32

theorem pairs_at (lo hi : FVec F S112x128 .bf16) (g : Fin 112) (p : Fin 2) (l : Fin 128) :
    pairs lo hi (ix3 g p l) = if p = 0 then lo (ix2 g l) else hi (ix2 g l) := by
  fin_cases p <;> pointwise [pairs]

/-- Row `o` of every group's sixteen. -/
def tblPiece (o : ℕ) (h : o < 16) (w : Vec F S112x2x128 .bf16) : View.Piece (Elt F) S1792x2x128 .bf16 :=
  ⟨⟨⟨![o, 0, 0], S112x2x128.size, ![16, 1, 1], inbG o h⟩, spos_16_1_1⟩, w⟩

/-- 128 columns of the scales. -/
def ldC (s : S112x3584.Idx → Elt F .bf16) (o : ℕ) (h : o + 128 ≤ 3584) : Vec F S112x128 .bf16 :=
  fun y => s ((Rect.unit (s := S112x3584) ![0, o] S112x128.size (inbC o h)).toLoadRect.idx y)

/-- The first `k` of the scales' stores into the table, newest first. -/
def sclPieces (s : S112x3584.Idx → Elt F .bf16) : (k : ℕ) → k ≤ 14 → List (View.Piece (Elt F) S1792x2x128 .bf16)
  | 0, _ => []
  | k + 1, h => tblPiece k (by omega) (pairs (ldC s (256 * k) (by omega)) (ldC s (256 * k + 128) (by omega))) :: sclPieces s k (by omega)

/-- What the first point writes into the table, newest first. -/
def tblPieces (s : S112x3584.Idx → Elt F .bf16) : List (View.Piece (Elt F) S1792x2x128 .bf16) :=
  tblPiece 15 (by decide) (k0_pay62 k0_pay22 k0_pay23) :: tblPiece 14 (by decide) (k0_pay21 k0_pay3) :: sclPieces s 14 (by decide)

/-- 256 columns of the scales. -/
def ldC2 (s : S112x3584.Idx → Elt F .bf16) (o : ℕ) (h : o + 256 ≤ 3584) : Vec F S112x256 .bf16 :=
  fun y => s ((Rect.unit (s := S112x3584) ![0, o] S112x256.size (inbC2 o h)).toLoadRect.idx y)

/-- 256 columns of the packed zero points. -/
def ldZ (z : S56x3584.Idx → Elt F .i8) (o : ℕ) (h : o + 256 ≤ 3584) : Vec F S56x256 .i8 :=
  fun y => z ((Rect.unit (s := S56x3584) ![0, o] S56x256.size (inbZ o h)).toLoadRect.idx y)

/-- One tile of the last step: the accumulator less the zero points' share, rounded. -/
def outTile (xg : Vec F S128x128 .f32) (s : S112x3584.Idx → Elt F .bf16) (z : S56x3584.Idx → Elt F .i8) (n : ℕ) (hn : n < 14)
    (acc : Vec F S128x256 .f32) : FVec F S128x256 .bf16 :=
  k0_pay34 xg (ldZ z (256 * n) (by omega)) (ldC2 s (256 * n) (by omega)) acc

/-! ## What a point does, as a relation of contents -/

/-- The activations of a point as the kernel takes them. -/
def xOf (x : S128x1024.Idx → Elt F .bf16) : FVec F S128x1024 .bf16 :=
  k0_pay71 (fun y => x ((Rect.unit (s := S128x1024) ![0, 0] S128x1024.size inb_S128x1024_S128x1024_0_0).toLoadRect.idx y))

/-- The accumulator after a point. -/
def AccOK (x : S128x1024.Idx → Elt F .bf16) (q : S128x3584.Idx → Elt F .i32) (s8 s9 : S8256x2x128.Idx → Elt F .bf16)
    (acc acc' : S128x3584.Idx → Elt F .f32) : Prop :=
  ∀ (n : ℕ) (hn : n < 14) (b : Fin 128) (l : Fin 256), acc' (ix2 b (⟨256 * n + l.val, by omega⟩ : Fin 3584))
    = accTile (xOf x) q s8 s9 n hn (ldA acc (256 * n) (by omega)) (ix2 b l)

/-- The result after the last point. -/
def OutOK (xg : S128x128.Idx → Elt F .f32) (s : S112x3584.Idx → Elt F .bf16) (z : S56x3584.Idx → Elt F .i8)
    (acc : S128x3584.Idx → Elt F .f32) (o : S128x3584.Idx → Elt F .bf16) : Prop :=
  ∀ (n : ℕ) (hn : n < 14) (b : Fin 128) (l : Fin 256), o (ix2 b (⟨256 * n + l.val, by omega⟩ : Fin 3584))
    = outTile xg s z n hn (ldA acc (256 * n) (by omega)) (ix2 b l)

section Facts

variable {κ : Kind} {sp : Space}

theorem rectT_idx (o : ℕ) (h : o + 256 ≤ 3584) (y : S128x256.Idx) :
    (Rect.unit (s := S128x3584) ![0, o] S128x256.size (inbT o h)).toLoadRect.idx y
      = (ix2 (y 0 : Fin 128) (⟨o + (y 1).val, by have : (y 1).val < 256 := (y 1).isLt; omega⟩ : Fin 3584) : S128x3584.Idx) := by
  funext a
  refine Fin.ext ?_
  match a with
  | ⟨0, _⟩ => show 0 + 1 * (y 0).val = (y 0).val; omega
  | ⟨1, _⟩ => show o + 1 * (y 1).val = o + (y 1).val; omega

/-- The accumulator's stores, over contents already there. -/
theorem accOK_mid (x : S128x1024.Idx → Elt F .bf16) (q : S128x3584.Idx → Elt F .i32) (s8 s9 : S8256x2x128.Idx → Elt F .bf16)
    (v : View sig κ sp S128x3584 .f32) (f f' : v.ty.Contents (Elt F)) (acc : S128x3584.Idx → Elt F .f32) :
    AccOK x q s8 s9 acc (v.read (Elt F) (v.writes (Elt F) f' (tiles [] (fun n hn _ => accTile (xOf x) q s8 s9 n hn (ldA acc (256 * n) (by omega))) 14 (le_refl _)))) :=
  fun n hn b l => tiles_lt v f' _ _ 14 (le_refl _) n hn hn b l

/-- The accumulator's stores, after one that filled it. -/
theorem accOK_first (x : S128x1024.Idx → Elt F .bf16) (q : S128x3584.Idx → Elt F .i32) (s8 s9 : S8256x2x128.Idx → Elt F .bf16)
    (v : View sig κ sp S128x3584 .f32) (f' : v.ty.Contents (Elt F)) (acc : S128x3584.Idx → Elt F .f32) :
    AccOK x q s8 s9 acc (v.read (Elt F) (v.writes (Elt F) f' (tiles [⟨Rect.unit (s := S128x3584) ![0, 0] S128x3584.size inb_S128x3584_S128x3584_0_0, acc⟩]
      (fun n hn L => accTile (xOf x) q s8 s9 n hn (v.readCov L (Rect.unit (s := S128x3584) ![0, 256 * n] S128x256.size (inbT _ (by omega))).toLoadRect)) 14 (le_refl _)))) := by
  intro n hn b l
  refine (tiles_lt v f' _ _ 14 (le_refl _) n hn hn b l).trans ?_
  refine congrArg (fun a => accTile (xOf x) q s8 s9 n hn a (ix2 b l)) (funext fun y => ?_)
  show v.read (Elt F) (v.writes (Elt F) v.junk _) ((Rect.unit (s := S128x3584) ![0, 256 * n] S128x256.size (inbT _ (by omega))).toLoadRect.idx y)
    = acc ((Rect.unit (s := S128x3584) ![0, 256 * n] S128x256.size (inbT _ (by omega))).toLoadRect.idx y)
  rw [rectT_idx (256 * n) (by omega)]
  refine (tiles_ge v v.junk _ _ n (by omega) n hn (le_refl _) (y 0) (y 1)).trans ?_
  exact congrFun (View.read_writes_full v v.junk (off := ![0, 0]) _ acc []) _

/-- The result's stores. -/
theorem outOK_last (xg : S128x128.Idx → Elt F .f32) (s : S112x3584.Idx → Elt F .bf16) (z : S56x3584.Idx → Elt F .i8)
    (v : View sig κ sp S128x3584 .f32) (f : v.ty.Contents (Elt F)) {sp6 : Space} (v6 : View sig κ sp6 S128x3584 .bf16) (f6 : v6.ty.Contents (Elt F))
    (step : (n : ℕ) → n < 14 → List (View.Piece (Elt F) S128x3584 .f32) → (S128x256.Idx → Elt F .f32)) :
    OutOK xg s z (v.read (Elt F) (v.writes (Elt F) f (tiles [] step 14 (le_refl _)))) (v6.read (Elt F) (v6.writes (Elt F) f6
      (tiles [] (fun n hn _ => outTile xg s z n hn (v.readCov (tiles [] step 14 (le_refl _)) (Rect.unit (s := S128x3584) ![0, 256 * n] S128x256.size (inbT _ (by omega))).toLoadRect)) 14 (le_refl _)))) := by
  intro n hn b l
  refine (tiles_lt v6 f6 _ _ 14 (le_refl _) n hn hn b l).trans ?_
  refine congrArg (fun a => outTile xg s z n hn a (ix2 b l)) (funext fun y => ?_)
  show v.read (Elt F) (v.writes (Elt F) v.junk _) ((Rect.unit (s := S128x3584) ![0, 256 * n] S128x256.size (inbT _ (by omega))).toLoadRect.idx y)
    = v.read (Elt F) (v.writes (Elt F) f _) ((Rect.unit (s := S128x3584) ![0, 256 * n] S128x256.size (inbT _ (by omega))).toLoadRect.idx y)
  rw [rectT_idx (256 * n) (by omega)]
  exact (tiles_lt v v.junk _ _ 14 (le_refl _) n hn hn (y 0) (y 1)).trans (tiles_lt v f _ _ 14 (le_refl _) n hn hn (y 0) (y 1)).symm

theorem xg_full (v : View sig κ sp S128x128 .f32) (f : v.ty.Contents (Elt F)) (w : S128x128.Idx → Elt F .f32) (L : List (View.Piece (Elt F) S128x128 .f32)) :
    v.read (Elt F) (v.writes (Elt F) f (⟨Rect.unit (s := S128x128) ![0, 0] S128x128.size inb_S128x128_S128x128_0_0, w⟩ :: L)) = w :=
  View.read_writes_full v f (off := ![0, 0]) _ w L

theorem xg_cov (v : View sig κ sp S128x128 .f32) (w : S128x128.Idx → Elt F .f32) (L : List (View.Piece (Elt F) S128x128 .f32)) :
    v.readCov (⟨Rect.unit (s := S128x128) ![0, 0] S128x128.size inb_S128x128_S128x128_0_0, w⟩ :: L) (Rect.unit (s := S128x128) ![0, 0] S128x128.size inb_S128x128_S128x128_0_0).toLoadRect = w :=
  (View.readAt_full v _ (off := ![0, 0]) _).trans (xg_full v _ w L)

end Facts

end Cert.Proof.Val

end
-- ==== Proof.ValAt.lean ====
/- What one point computes, read at an element over the extended reals. -/
module

public import proofs.«01_k».proof.Proof.ValTile
public import Idealize.ShloMosaic.Lib.Pointwise

@[expose] public section

noncomputable section

namespace Cert.Proof.Val

open Cert.KernelIdeal Cert.KernelIdeal.Gen
open Idealize.ShloMosaic Idealize.ShloMosaic.TcCoe Idealize.ShloMosaic.Tactic

/-- The four-bit code at place `k` of a word, less eight, as the kernel unpacks it. -/
def code8 (w : BitVec 32) (k : ℕ) : EReal :=
  (((BitVec.sshiftRight ((w ^^^ 2290649224#32) <<< (28 - 4 * k)) 28).toInt : ℝ) : EReal)

theorem codes_row (q : Vec Ideal S128x128 .i32) (i : Fin 1024) (l : Fin 128) :
    codes (F := Ideal) q (ix2 i l) = BitVec.sshiftRight ((q (ix2 (⟨i.val / 8, by omega⟩ : Fin 128) l) ^^^ 2290649224#32) <<< (28 - 4 * (i.val % 8))) 28 := by
  have h := codes_at (F := Ideal) q ⟨i.val / 8, by omega⟩ ⟨i.val % 8, by omega⟩ l
  rwa [show (⟨8 * (⟨i.val / 8, by omega⟩ : Fin 128).val + (⟨i.val % 8, by omega⟩ : Fin 8).val, by omega⟩ : Fin 1024) = i from
    Fin.ext (by show 8 * (i.val / 8) + i.val % 8 = i.val; omega)] at h

theorem rows_row (s : Vec Ideal S512x2x128 .bf16) (i : Fin 1024) (l : Fin 128) :
    rows s (ix2 i l) = s (ix3 (⟨i.val / 2, by omega⟩ : Fin 512) (⟨i.val % 2, by omega⟩ : Fin 2) l) := by
  have h := rows_read (F := Ideal) s ⟨i.val / 2, by omega⟩ ⟨i.val % 2, by omega⟩ l
  rwa [show (⟨2 * (⟨i.val / 2, by omega⟩ : Fin 512).val + (⟨i.val % 2, by omega⟩ : Fin 2).val, by omega⟩ : Fin 1024) = i from
    Fin.ext (by show 2 * (i.val / 2) + i.val % 2 = i.val; omega)] at h

theorem tilePay_lo (x : FVec Ideal S128x1024 .bf16) (qa qb : Vec Ideal S128x128 .i32) (sa sb : Vec Ideal S512x2x128 .bf16) (acc : Vec Ideal S128x256 .f32)
    (b : Fin 128) (l : Fin 128) : tilePay x qa qb sa sb acc (ix2 b (⟨l.val, by omega⟩ : Fin 256))
      = acc (ix2 b (⟨l.val, by omega⟩ : Fin 256)) + ∑ i : Fin 1024, x (ix2 b i) * (code8 (qa (ix2 (⟨i.val / 8, by omega⟩ : Fin 128) l)) (i.val % 8) * sa (ix3 (⟨i.val / 2, by omega⟩ : Fin 512) (⟨i.val % 2, by omega⟩ : Fin 2) l)) := by
  have e : ∀ i : Fin 1024, code8 (qa (ix2 (⟨i.val / 8, by omega⟩ : Fin 128) l)) (i.val % 8) * sa (ix3 (⟨i.val / 2, by omega⟩ : Fin 512) (⟨i.val % 2, by omega⟩ : Fin 2) l)
      = (((codes (F := Ideal) qa (ix2 i l)).toInt : ℝ) : EReal) * rows sa (ix2 i l) := fun i => by rw [codes_row, rows_row]; rfl
  simp only [e]
  pointwise [tilePay]
  rfl

theorem tilePay_hi (x : FVec Ideal S128x1024 .bf16) (qa qb : Vec Ideal S128x128 .i32) (sa sb : Vec Ideal S512x2x128 .bf16) (acc : Vec Ideal S128x256 .f32)
    (b : Fin 128) (l : Fin 128) : tilePay x qa qb sa sb acc (ix2 b (⟨128 + l.val, by omega⟩ : Fin 256))
      = acc (ix2 b (⟨128 + l.val, by omega⟩ : Fin 256)) + ∑ i : Fin 1024, x (ix2 b i) * (code8 (qb (ix2 (⟨i.val / 8, by omega⟩ : Fin 128) l)) (i.val % 8) * sb (ix3 (⟨i.val / 2, by omega⟩ : Fin 512) (⟨i.val % 2, by omega⟩ : Fin 2) l)) := by
  have e : ∀ i : Fin 1024, code8 (qb (ix2 (⟨i.val / 8, by omega⟩ : Fin 128) l)) (i.val % 8) * sb (ix3 (⟨i.val / 2, by omega⟩ : Fin 512) (⟨i.val % 2, by omega⟩ : Fin 2) l)
      = (((codes (F := Ideal) qb (ix2 i l)).toInt : ℝ) : EReal) * rows sb (ix2 i l) := fun i => by rw [codes_row, rows_row]; rfl
  simp only [e]
  pointwise [tilePay]
  rfl

/-- The group sums grow by the activations of the rows of each group. -/
theorem xgNext_at (x : FVec Ideal S128x1024 .bf16) (s8 : S8256x2x128.Idx → Elt Ideal .bf16) (xg : Vec Ideal S128x128 .f32) (b : Fin 128) (g : Fin 128) :
    xgNext x s8 xg (ix2 b g) = xg (ix2 b g) + ∑ i : Fin 1024, x (ix2 b i) * (ldS s8 7224 (by decide)) (ix3 (⟨i.val / 2, by omega⟩ : Fin 512) (⟨i.val % 2, by omega⟩ : Fin 2) g) := by
  have e : ∀ i : Fin 1024, (ldS s8 7224 (by decide)) (ix3 (⟨i.val / 2, by omega⟩ : Fin 512) (⟨i.val % 2, by omega⟩ : Fin 2) g)
      = rows (ldS s8 7224 (by decide)) (ix2 i g) := fun i => (rows_row _ i g).symm
  simp only [e]
  show k0_pay1 x (ldS s8 7224 (by decide)) xg (ix2 b g) = _
  have e2 : k0_pay1 x (ldS s8 7224 (by decide)) xg = shapeCast S128x128 (addf xg (matmul dot_S128x1024_S1024x128_S128x128_1_0_0_1_n_n none x (rows (ldS s8 7224 (by decide))) (constant S128x128 .f32 0x00000000#32))) shapeCasts_S128x128_S128x128 := rfl
  rw [e2]
  pointwise

theorem ldS_at (s : S8256x2x128.Idx → Elt Ideal .bf16) (o : ℕ) (h : o + 512 ≤ 8256) (j : Fin 512) (p : Fin 2) (l : Fin 128) :
    ldS s o h (ix3 j p l) = s (ix3 (⟨o + j.val, by omega⟩ : Fin 8256) p l) := by
  refine congrArg s (funext fun a => Fin.ext ?_)
  match a with
  | ⟨0, _⟩ => show o + 1 * j.val = o + j.val; omega
  | ⟨1, _⟩ => show 0 + 1 * p.val = p.val; omega
  | ⟨2, _⟩ => show 0 + 1 * l.val = l.val; omega

theorem ldQ_at (q : S128x3584.Idx → Elt Ideal .i32) (o : ℕ) (h : o + 128 ≤ 3584) (r : Fin 128) (l : Fin 128) :
    ldQ q o h (ix2 r l) = q (ix2 r (⟨o + l.val, by omega⟩ : Fin 3584)) := by
  refine congrArg q (funext fun a => Fin.ext ?_)
  match a with
  | ⟨0, _⟩ => show 0 + 1 * r.val = r.val; omega
  | ⟨1, _⟩ => show o + 1 * l.val = o + l.val; omega

theorem ldA_at {e : EltTy} (a : S128x3584.Idx → Elt Ideal e) (o : ℕ) (h : o + 256 ≤ 3584) (r : Fin 128) (l : Fin 256) :
    ldA a o h (ix2 r l) = a (ix2 r (⟨o + l.val, by omega⟩ : Fin 3584)) := by
  refine congrArg a (funext fun d => Fin.ext ?_)
  match d with
  | ⟨0, _⟩ => show 0 + 1 * r.val = r.val; omega
  | ⟨1, _⟩ => show o + 1 * l.val = o + l.val; omega

theorem ldC_at (s : S112x3584.Idx → Elt Ideal .bf16) (o : ℕ) (h : o + 128 ≤ 3584) (r : Fin 112) (l : Fin 128) :
    ldC s o h (ix2 r l) = s (ix2 r (⟨o + l.val, by omega⟩ : Fin 3584)) := by
  refine congrArg s (funext fun d => Fin.ext ?_)
  match d with
  | ⟨0, _⟩ => show 0 + 1 * r.val = r.val; omega
  | ⟨1, _⟩ => show o + 1 * l.val = o + l.val; omega

theorem ldC2_at (s : S112x3584.Idx → Elt Ideal .bf16) (o : ℕ) (h : o + 256 ≤ 3584) (r : Fin 112) (l : Fin 256) :
    ldC2 s o h (ix2 r l) = s (ix2 r (⟨o + l.val, by omega⟩ : Fin 3584)) := by
  refine congrArg s (funext fun d => Fin.ext ?_)
  match d with
  | ⟨0, _⟩ => show 0 + 1 * r.val = r.val; omega
  | ⟨1, _⟩ => show o + 1 * l.val = o + l.val; omega

theorem ldZ_at (s : S56x3584.Idx → Elt Ideal .i8) (o : ℕ) (h : o + 256 ≤ 3584) (r : Fin 56) (l : Fin 256) :
    ldZ s o h (ix2 r l) = s (ix2 r (⟨o + l.val, by omega⟩ : Fin 3584)) := by
  refine congrArg s (funext fun d => Fin.ext ?_)
  match d with
  | ⟨0, _⟩ => show 0 + 1 * r.val = r.val; omega
  | ⟨1, _⟩ => show o + 1 * l.val = o + l.val; omega

theorem xOf_at (x : S128x1024.Idx → Elt Ideal .bf16) (b : Fin 128) (i : Fin 1024) : xOf x (ix2 b i) = x (ix2 b i) := by
  have e : xOf x = shapeCast S128x1024 (fun y => x ((Rect.unit (s := S128x1024) ![0, 0] S128x1024.size inb_S128x1024_S128x1024_0_0).toLoadRect.idx y)) shapeCasts_S128x1024_S128x1024 := rfl
  rw [e]
  pointwise

theorem zero66_at (b : Fin 128) (o : Fin 3584) : k0_pay66 (F := Ideal) (ix2 b o) = 0 := by
  pointwise [k0_pay66]

theorem zero67_at (b : Fin 128) (g : Fin 128) : k0_pay67 (F := Ideal) (ix2 b g) = 0 := by
  pointwise [k0_pay67]

/-- The one-hot row. -/
theorem hot_at (g : Fin 112) (l : Fin 128) : k0_pay3 (F := Ideal) (ix2 g l) = if l.val = g.val then 1 else 0 := by
  pointwise [k0_pay3]
  have hl := l.isLt
  have hg := g.isLt
  have e : (BitVec.ofNat 32 l.val = BitVec.ofNat 32 g.val) ↔ l.val = g.val :=
    ⟨fun h => by have := congrArg BitVec.toNat h; simp only [BitVec.toNat_ofNat] at this; omega, fun h => by rw [h]⟩
  by_cases h : l.val = g.val
  · simp [h, IntOp.cmpi, Scalar.select]
  · have hb : (BitVec.ofNat 32 l.val == BitVec.ofNat 32 g.val) = false := beq_eq_false_iff_ne.mpr fun h' => h (e.mp h')
    simp [h, hb, IntOp.cmpi, Scalar.select]

/-- A matrix beside itself. -/
def twice (v : FVec Ideal S128x128 .bf16) : FVec Ideal S128x256 .bf16 :=
  concatenate S128x256 1 [⟨S128x128, v⟩, ⟨S128x128, v⟩] concatenates_S128x128_S128x128_S128x256_d1

/-- The groups' zero points less eight, times the scales, with the rows past the groups zero. -/
def zsMat (zt : Vec Ideal S56x256 .i8) (st : Vec Ideal S112x256 .bf16) : FVec Ideal S128x256 .f32 :=
  concatenate S128x256 0 [⟨S112x256, mulf (sitofp .f32 (subi (concatenate S112x256 0
    [⟨S56x256, andi (extui 32 zt natLt_8_32) (broadcast S56x256 15#32)⟩, ⟨S56x256, shrui (extui 32 zt natLt_8_32) (broadcast S56x256 4#32)⟩] concatenates_S56x256_S56x256_S112x256_d0)
    (broadcast S112x256 8#32))) (extf .f32 st bitsLt_bf16_f32)⟩, ⟨S16x256, k0_pay33 (F := Ideal)⟩] concatenates_S112x256_S16x256_S128x256_d0

/-- Those rows, over what rounding them left. -/
def zsTwo (w : FVec Ideal S128x256 .f32) : FVec Ideal S256x256 .bf16 :=
  concatenate S256x256 0 [⟨S128x256, truncf .bf16 w bitsLt_bf16_f32⟩, ⟨S128x256, truncf .bf16 (subf w w) bitsLt_bf16_f32⟩] concatenates_S128x256_S128x256_S256x256_d0

theorem twice_at (v : FVec Ideal S128x128 .bf16) (b : Fin 128) (x : Fin 256) :
    twice v (ix2 b x) = if h : x.val < 128 then v (ix2 b ⟨x.val, h⟩) else v (ix2 b ⟨x.val - 128, by omega⟩) := by
  pointwise [twice]

theorem zsTwo_at (w : FVec Ideal S128x256 .f32) (x : Fin 256) (l : Fin 256) :
    zsTwo w (ix2 x l) = if h : x.val < 128 then w (ix2 ⟨x.val, h⟩ l) else w (ix2 ⟨x.val - 128, by omega⟩ l) - w (ix2 ⟨x.val - 128, by omega⟩ l) := by
  pointwise [zsTwo]

/-- A zero point less eight, from the bytes that hold two. -/
def zero8 (z : S56x3584.Idx → BitVec 8) (g : Fin 112) (o : Fin 3584) : EReal :=
  (((IntOp.subi (if h : g.val < 56 then IntOp.andi (BitVec.setWidth 32 (z (ix2 ⟨g.val, h⟩ o))) 15#32
    else IntOp.shrui ArithUnit.vector (BitVec.setWidth 32 (z (ix2 ⟨g.val - 56, by omega⟩ o))) 4#32) 8#32).toInt : ℝ) : EReal)

/-- A group's zero point less eight, times its scale; zero past the groups. -/
def zs (z : S56x3584.Idx → BitVec 8) (s : S112x3584.Idx → EReal) (o : Fin 3584) (g : Fin 128) : EReal :=
  if h : g.val < 112 then zero8 z ⟨g.val, h⟩ o * s (ix2 ⟨g.val, h⟩ o) else 0

theorem zsMat_at (s : S112x3584.Idx → Elt Ideal .bf16) (z : S56x3584.Idx → Elt Ideal .i8) (o : ℕ) (ho : o + 256 ≤ 3584) (g : Fin 128) (l : Fin 256) :
    zsMat (ldZ z o ho) (ldC2 s o ho) (ix2 g l) = zs z s ⟨o + l.val, by omega⟩ g := by
  pointwise [zsMat, k0_pay33]
  simp only [ldZ_at, ldC2_at]
  rfl

theorem three (acc : EReal) (r w : Fin 128 → EReal) (hw : ∀ g, w g - w g = 0) (A2 A1 A0 B : Fin 256 → EReal) (h2 : ∀ x, A2 x = 0) (h1 : ∀ x, A1 x = 0)
    (h0 : ∀ x : Fin 256, A0 x = if h : x.val < 128 then r ⟨x.val, h⟩ else r ⟨x.val - 128, by omega⟩)
    (hB : ∀ x : Fin 256, B x = if h : x.val < 128 then w ⟨x.val, h⟩ else w ⟨x.val - 128, by omega⟩ - w ⟨x.val - 128, by omega⟩) :
    acc - (((∑ x, A2 x * B x) + ∑ x, A1 x * B x) + ∑ x, A0 x * B x) = acc - ∑ g, r g * w g := by
  have e2 : ∑ x, A2 x * B x = 0 := Finset.sum_eq_zero fun x _ => by rw [h2, zero_mul]
  have e1 : ∑ x, A1 x * B x = 0 := Finset.sum_eq_zero fun x _ => by rw [h1, zero_mul]
  rw [e2, e1, zero_add, zero_add]
  have e0 : ∑ x, A0 x * B x = ∑ g, r g * w g := by
    refine (Fin.sum_univ_add (a := 128) (b := 128) fun x => A0 x * B x).trans ?_
    have ea : ∀ g : Fin 128, A0 (Fin.castAdd 128 g) * B (Fin.castAdd 128 g) = r g * w g := fun g => by
      rw [h0, hB, dif_pos (show (Fin.castAdd 128 g).val < 128 from g.isLt), dif_pos (show (Fin.castAdd 128 g).val < 128 from g.isLt)]; rfl
    have eb : ∀ g : Fin 128, A0 (Fin.natAdd 128 g) * B (Fin.natAdd 128 g) = 0 := fun g => by
      have hn : ¬ (Fin.natAdd 128 g).val < 128 := by show ¬ 128 + g.val < 128; omega
      rw [hB, dif_neg hn, hw, mul_zero]
    simp only [ea, eb, Finset.sum_const_zero, add_zero]
  rw [e0]

/-- One tile of the last step at finite operands: the accumulator less the sum over the groups. -/
theorem outTile_at (xg : Vec Ideal S128x128 .f32) (s : S112x3584.Idx → Elt Ideal .bf16) (z : S56x3584.Idx → Elt Ideal .i8) (n : ℕ) (hn : n < 14)
    (acc : Vec Ideal S128x256 .f32) (b : Fin 128) (l : Fin 256) (hx : ∀ g, xg (ix2 b g) - xg (ix2 b g) = 0)
    (hw : ∀ g, zs z s ⟨256 * n + l.val, by omega⟩ g - zs z s ⟨256 * n + l.val, by omega⟩ g = 0) :
    outTile xg s z n hn acc (ix2 b l) = acc (ix2 b l) - ∑ g : Fin 128, xg (ix2 b g) * zs z s ⟨256 * n + l.val, by omega⟩ g := by
  have e : outTile xg s z n hn acc = truncf .bf16 (subf acc (addf (addf
      (matmul dot_S128x256_S256x256_S128x256_1_0_0_1_n_n none (twice (k0_pay32 xg)) (zsTwo (zsMat (ldZ z (256 * n) (by omega)) (ldC2 s (256 * n) (by omega)))) (constant S128x256 .f32 0x00000000#32))
      (matmul dot_S128x256_S256x256_S128x256_1_0_0_1_n_n none (twice (k0_pay31 xg)) (zsTwo (zsMat (ldZ z (256 * n) (by omega)) (ldC2 s (256 * n) (by omega)))) (constant S128x256 .f32 0x00000000#32)))
      (matmul dot_S128x256_S256x256_S128x256_1_0_0_1_n_n none (twice (k0_pay29 xg)) (zsTwo (zsMat (ldZ z (256 * n) (by omega)) (ldC2 s (256 * n) (by omega)))) (constant S128x256 .f32 0x00000000#32)))) bitsLt_bf16_f32 := rfl
  rw [e]
  pointwise
  have h31 : ∀ g, k0_pay31 xg (ix2 b g) = 0 := fun g => by pointwise [k0_pay31, k0_pay30]; exact hx g
  have h32 : ∀ g, k0_pay32 xg (ix2 b g) = 0 := fun g => by pointwise [k0_pay32, k0_pay30]; rw [hx g]; simp
  have h29 : ∀ g, k0_pay29 xg (ix2 b g) = xg (ix2 b g) := fun g => by pointwise [k0_pay29]
  refine three (acc (ix2 b l)) (fun g => xg (ix2 b g)) (fun g => zs z s ⟨256 * n + l.val, by omega⟩ g) hw _ _ _ _ (fun x => ?_) (fun x => ?_) (fun x => ?_) (fun x => ?_)
  · rw [twice_at]; split <;> exact h32 _
  · rw [twice_at]; split <;> exact h31 _
  · rw [twice_at]; split <;> exact h29 _
  · rw [zsTwo_at]; simp only [zsMat_at]

end Cert.Proof.Val

end
-- ==== Proof.ValTable.lean ====
/- The table the first point builds, read at a row. -/
module

public import proofs.«01_k».proof.Proof.ValAt

@[expose] public section

noncomputable section

namespace Cert.Proof.Val

open Cert.KernelIdeal Cert.KernelIdeal.Gen
open Idealize.ShloMosaic Idealize.ShloMosaic.TcCoe Idealize.ShloMosaic.Tactic

variable {sp : Space} (v : View sig .tc sp S1792x2x128 .bf16) (f : v.ty.Contents (Elt Ideal))

/-- A row that a strided store of the table wrote, read back. -/
theorem tbl_hit (o : ℕ) (h : o < 16) (w : Vec Ideal S112x2x128 .bf16) (L : List (View.Piece (Elt Ideal) S1792x2x128 .bf16)) (g : Fin 112) (p : Fin 2) (l : Fin 128)
    (R : Fin 1792) (hR : R.val = 16 * g.val + o) :
    v.read (Elt Ideal) (v.writes (Elt Ideal) f (tblPiece o h w :: L)) (ix3 R p l) = w (ix3 g p l) := by
  refine View.read_writes_cons_hit_of_coords v f (⟨⟨![o, 0, 0], S112x2x128.size, ![16, 1, 1], inbG o h⟩, spos_16_1_1⟩ : Rect S1792x2x128) w L
    (ix3 g p l : S112x2x128.Idx) (ix3 R p l : S1792x2x128.Idx) (Fin.forall_fin_succ.mpr ⟨?_, Fin.forall_fin_succ.mpr ⟨?_, Fin.forall_fin_one.mpr ?_⟩⟩)
  · show R.val = o + 16 * g.val; omega
  · show p.val = 0 + 1 * p.val; omega
  · show l.val = 0 + 1 * l.val; omega

/-- A row that it did not write. -/
theorem tbl_miss (o : ℕ) (h : o < 16) (w : Vec Ideal S112x2x128 .bf16) (L : List (View.Piece (Elt Ideal) S1792x2x128 .bf16)) (p : Fin 2) (l : Fin 128)
    (R : Fin 1792) (hR : R.val % 16 ≠ o) :
    v.read (Elt Ideal) (v.writes (Elt Ideal) f (tblPiece o h w :: L)) (ix3 R p l) = v.read (Elt Ideal) (v.writes (Elt Ideal) f L) (ix3 R p l) := by
  refine View.read_writes_cons_miss v f _ L _ fun hm => ?_
  obtain ⟨j, hj, e⟩ := (LoadRect.mem_set _).mp hm 0
  exact hR (by have e' : R.val = o + 16 * j := e; omega)

theorem scl_read (s : S112x3584.Idx → Elt Ideal .bf16) (k : ℕ) (hk : k ≤ 14) (c : ℕ) (hc : c < k) (g : Fin 112) (p : Fin 2) (l : Fin 128) (R : Fin 1792) (hR : R.val = 16 * g.val + c) :
    v.read (Elt Ideal) (v.writes (Elt Ideal) f (sclPieces s k hk)) (ix3 R p l) = s (ix2 g (⟨256 * c + 128 * p.val + l.val, by omega⟩ : Fin 3584)) := by
  induction k with
  | zero => exact absurd hc (Nat.not_lt_zero _)
  | succ k ih =>
    by_cases hck : c = k
    · subst hck
      refine (tbl_hit v f c (by omega) _ _ g p l R hR).trans ?_
      rw [pairs_at]
      match p with
      | ⟨0, _⟩ =>
        exact (ldC_at s (256 * c) (by omega) g l).trans (congrArg (fun y => s (ix2 g y)) (Fin.ext (by show 256 * c + l.val = 256 * c + 128 * 0 + l.val; omega)))
      | ⟨1, _⟩ =>
        exact (ldC_at s (256 * c + 128) (by omega) g l).trans (congrArg (fun y => s (ix2 g y)) (Fin.ext (by show 256 * c + 128 + l.val = 256 * c + 128 * 1 + l.val; omega)))
    · exact (tbl_miss v f k (by omega) _ _ p l R (by omega)).trans (ih _ (by omega))

/-- What the table must hold: row `c` of a group's sixteen its scales at 256 columns, row 14 the group's own place. -/
def TblOK (s : S112x3584.Idx → EReal) (t7 : S1792x2x128.Idx → EReal) : Prop :=
  (∀ (c : ℕ) (hc : c < 14) (g : Fin 112) (p : Fin 2) (l : Fin 128) (R : Fin 1792), R.val = 16 * g.val + c →
    t7 (ix3 R p l) = s (ix2 g (⟨256 * c + 128 * p.val + l.val, by omega⟩ : Fin 3584)))
  ∧ ∀ (g : Fin 112) (l : Fin 128) (R : Fin 1792), R.val = 16 * g.val + 14 → t7 (ix3 R 0 l) = if l.val = g.val then 1 else 0

theorem tblOK (s : S112x3584.Idx → Elt Ideal .bf16) : TblOK s (v.read (Elt Ideal) (v.writes (Elt Ideal) f (tblPieces s))) := by
  refine ⟨fun c hc g p l R hR => ?_, fun g l R hR => ?_⟩
  · refine (tbl_miss v f 15 (by decide) _ _ p l R (by omega)).trans ((tbl_miss v f 14 (by decide) _ _ p l R (by omega)).trans ?_)
    exact scl_read v f s 14 (le_refl _) c hc g p l R hR
  · refine (tbl_miss v f 15 (by decide) _ _ 0 l R (by omega)).trans ((tbl_hit v f 14 (by decide) _ _ g 0 l R hR).trans ?_)
    have e : (k0_pay21 (F := Ideal) k0_pay3) = pairs k0_pay3 (broadcast S112x128 (Scalar.ofBits .bf16 0x0000#16)) := rfl
    rw [e, pairs_at, if_pos rfl, hot_at]

end Cert.Proof.Val

end
-- ==== Proof.ValPay.lean ====
/- The kernel's payloads that only move data, read at an index. -/
module

public import proofs.«01_k».proof.Proof.Gen.KernelIdeal.Skeleton
public import Idealize.ShloMosaic.Lib.Pointwise

@[expose] public section

noncomputable section

namespace Cert.Proof.Val

open Cert.KernelIdeal Cert.KernelIdeal.Gen
open Idealize.ShloMosaic Idealize.ShloMosaic.Tactic

variable {F : FTy → Type} [FloatOps F]

theorem pay27_at (a b : Vec F S8x2x128 .bf16) (r : Fin 8) (p : Fin 2) (l : Fin 128) :
    k0_pay27 a b (ix3 r p l) = if p = 0 then a (ix3 r 0 l) else b (ix3 r 0 l) := by
  fin_cases p <;> pointwise [k0_pay27]

theorem pay68_at (a b : Vec F S8x2x128 .bf16) (r : Fin 8) (p : Fin 2) (l : Fin 128) :
    k0_pay68 (k0_pay25 a) (k0_pay26 b) (ix3 r p l) = if p = 0 then a (ix3 r 1 l) else b (ix3 r 1 l) := by
  fin_cases p <;> pointwise [k0_pay68, k0_pay25, k0_pay26]

theorem pay69_at (a b : Vec F S8x2x128 .bf16) (r : Fin 8) (p : Fin 2) (l : Fin 128) :
    k0_pay69 a b (ix3 r p l) = if p = 0 then a (ix3 r 0 l) else b (ix3 r 0 l) := by
  fin_cases p <;> pointwise [k0_pay69]

theorem pay70_at (a b : Vec F S8x2x128 .bf16) (r : Fin 8) (p : Fin 2) (l : Fin 128) :
    k0_pay70 a b (ix3 r p l) = if p = 0 then a (ix3 r 1 l) else b (ix3 r 1 l) := by
  fin_cases p <;> pointwise [k0_pay70]

/-- Where the first word of a trip is read. -/
theorem off1_eq (i : grid0.Coords) (k : Fin k0_t1_loop.trips) : k0_off1 i k = ![1024 * (i 0).val + 2 * k.val] := by
  have hk : k.val < 512 := k.isLt
  have hi : (i 0).val < 14 := (i 0).isLt
  unfold k0_off1
  simp only [Scalar.muli, Scalar.addi, Scalar.indexCast, Scf.iv, IntOp.addi, IntOp.muli]
  congr 1
  simp [BitVec.toNat_add, BitVec.toNat_mul]
  omega

/-- Where the second word of a trip is read. -/
theorem off2_eq (i : grid0.Coords) (k : Fin k0_t1_loop.trips) : k0_off2 i k = ![1024 * (i 0).val + 2 * k.val + 1] := by
  have hk : k.val < 512 := k.isLt
  have hi : (i 0).val < 14 := (i 0).isLt
  unfold k0_off2
  simp only [Scalar.muli, Scalar.addi, Scalar.indexCast, Scf.iv, IntOp.addi, IntOp.muli]
  congr 1
  simp [BitVec.toNat_add, BitVec.toNat_mul]
  omega

theorem off3_eq (w : BitVec 32) (hw : w.toNat < 112) (o : BitVec 32) (ho : o.toNat < 16) : k0_off3 w o = ![16 * w.toNat + o.toNat, 0, 0] := by
  unfold k0_off3
  simp only [Scalar.muli, Scalar.addi, Scalar.indexCast, IntOp.addi, IntOp.muli]
  congr 1
  simp [BitVec.toNat_add, BitVec.toNat_mul]
  omega

theorem off4_eq (w : BitVec 32) (hw : w.toNat < 112) (o : BitVec 32) (ho : o.toNat < 16) : k0_off4 w o = ![16 * w.toNat + o.toNat, 0, 0] :=
  off3_eq w hw o ho

theorem off5_eq (k : Fin k0_t1_loop.trips) (o : BitVec 32) (ho : o.toNat < 5000) : k0_off5 k o = ![o.toNat + k.val, 0, 0] := by
  have hk : k.val < 512 := k.isLt
  unfold k0_off5
  simp only [Scalar.muli, Scalar.addi, Scalar.indexCast, Scf.iv, IntOp.addi, IntOp.muli]
  congr 1
  simp [BitVec.toNat_add, BitVec.toNat_mul]
  omega

end Cert.Proof.Val

end
-- ==== Proof.ValLoop.lean ====
/- The gather loop of the kernel, with what it writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.FrameKI
public import proofs.«01_k».proof.Proof.ValPay
public import Idealize.ShloMosaic.Adequacy
public import Idealize.ShloMosaic.Init
public import Idealize.ShloMosaic.Lib.Tactic
public import Idealize.ShloMosaic.Lib.Pipeline.FrameSuffix

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdealFrame (UU 𝒱₀ WordsOK chk1_of_lt chk2_of_lt)

local notation "𝕄" => MT nD τ sig Unit (Elt F) ℕ (UU nD τ) ℕ

/-- The group a row of `x`'s columns belongs to, as the kernel reads it. -/
def word (c : Dev nD) (arg1 : Memref sig .tc .smem S14336 .i32) (T : Buf (Elt F) (arg1.view.loc (c : Thread nD τ))) (n : ℕ) (hn : n < 14336) : ℕ :=
  (arg1.view.read (Elt F) T (ix1 (⟨n, hn⟩ : Fin 14336)) : BitVec 32).toNat

/-- After `n` trips the slab `f` holds, at the rows the trips wrote, half `h` of the table rows of the groups. -/
def Gathered (c : Dev nD) (i : grid0.Coords) (arg1 : Memref sig .tc .smem S14336 .i32) (T : Buf (Elt F) (arg1.view.loc (c : Thread nD τ)))
    (t7 : S1792x2x128.Idx → F .bf16) (h : Fin 2) (f : S8256x2x128.Idx → F .bf16) (n : ℕ) : Prop :=
  ∀ (k : ℕ) (hk : k < 512), k < n → ∀ (cc : Fin 16) (p : Fin 2) (l : Fin 128) (R : Fin 1792),
    R.val = 16 * word c arg1 T (1024 * (i 0).val + 2 * k + p.val) (by have : (i 0).val < 14 := (i 0).isLt; omega) + cc.val →
    f (ix3 (⟨516 * cc.val + k, by omega⟩ : Fin 8256) p l) = t7 (ix3 R h l)

/-- `Gathered`, as an equation that holds by computation before the first trip. -/
def GatheredN (c : Dev nD) (i : grid0.Coords) (arg1 : Memref sig .tc .smem S14336 .i32) (T : Buf (Elt F) (arg1.view.loc (c : Thread nD τ)))
    (t7 : S1792x2x128.Idx → F .bf16) (h : Fin 2) (f : S8256x2x128.Idx → F .bf16) : ℕ → Prop
  | 0 => True
  | n + 1 => Gathered c i arg1 T t7 h f (n + 1)

theorem gatheredN_iff (c : Dev nD) (i : grid0.Coords) (arg1 : Memref sig .tc .smem S14336 .i32) (T : Buf (Elt F) (arg1.view.loc (c : Thread nD τ)))
    (t7 : S1792x2x128.Idx → F .bf16) (h : Fin 2) (f : S8256x2x128.Idx → F .bf16) (n : ℕ) :
    GatheredN c i arg1 T t7 h f n = True ↔ Gathered c i arg1 T t7 h f n := by
  cases n with
  | zero => exact ⟨fun _ k hk h => absurd h (Nat.not_lt_zero _), fun _ => rfl⟩
  | succ n => exact ⟨fun h => of_eq_true h, fun h => eq_true h⟩

section Step

variable {c : Dev nD} {i : grid0.Coords} {arg1 : Memref sig .tc .smem S14336 .i32} {T : Buf (Elt F) (arg1.view.loc (c : Thread nD τ))}
variable {sp : Space} (v : View sig .tc sp S8256x2x128 .bf16) (f : v.ty.Contents (Elt F))

/-- A row that a strided store of eight rows wrote, read back. -/
theorem stride_hit (off : Fin 3 → ℕ) (o k : ℕ) (hoff : off = ![o + k, 0, 0])
    (inb : ∀ a, S8x2x128.size a = 0 ∨ off a + (![516, 1, 1] : Fin 3 → ℕ) a * (S8x2x128.size a - 1) < S8256x2x128.size a)
    (sp' : ∀ a : Fin 3, 0 < (![516, 1, 1] : Fin 3 → ℕ) a)
    (w : S8x2x128.Idx → F .bf16) (L : List (View.Piece (Elt F) S8256x2x128 .bf16)) (r : Fin 8) (p : Fin 2) (l : Fin 128) (y : Fin 8256)
    (hy : y.val = o + 516 * r.val + k) :
    v.read (Elt F) (v.writes (Elt F) f (⟨⟨⟨off, S8x2x128.size, ![516, 1, 1], inb⟩, sp'⟩, w⟩ :: L)) (ix3 y p l) = w (ix3 r p l) := by
  subst hoff
  refine View.read_writes_cons_hit_of_coords v f (⟨⟨![o + k, 0, 0], S8x2x128.size, ![516, 1, 1], inb⟩, sp'⟩ : Rect S8256x2x128) w L
    (ix3 r p l : S8x2x128.Idx) (ix3 y p l : S8256x2x128.Idx) (Fin.forall_fin_succ.mpr ⟨?_, Fin.forall_fin_succ.mpr ⟨?_, Fin.forall_fin_one.mpr ?_⟩⟩)
  · show y.val = o + k + 516 * r.val; omega
  · show p.val = 0 + 1 * p.val; omega
  · show l.val = 0 + 1 * l.val; omega

/-- A row that a strided store of eight rows did not write. -/
theorem stride_miss (off : Fin 3 → ℕ) (o k : ℕ) (hoff : off = ![o + k, 0, 0])
    (inb : ∀ a, S8x2x128.size a = 0 ∨ off a + (![516, 1, 1] : Fin 3 → ℕ) a * (S8x2x128.size a - 1) < S8256x2x128.size a)
    (sp' : ∀ a : Fin 3, 0 < (![516, 1, 1] : Fin 3 → ℕ) a)
    (w : S8x2x128.Idx → F .bf16) (L : List (View.Piece (Elt F) S8256x2x128 .bf16)) (p : Fin 2) (l : Fin 128) (y : Fin 8256)
    (hy : ∀ r : Fin 8, y.val ≠ o + 516 * r.val + k) :
    v.read (Elt F) (v.writes (Elt F) f (⟨⟨⟨off, S8x2x128.size, ![516, 1, 1], inb⟩, sp'⟩, w⟩ :: L)) (ix3 y p l)
      = v.read (Elt F) (v.writes (Elt F) f L) (ix3 y p l) := by
  subst hoff
  refine View.read_writes_cons_miss v f _ L _ fun hm => ?_
  obtain ⟨j, hj, e⟩ := (LoadRect.mem_set _).mp hm 0
  exact hy ⟨j, hj⟩ (by have e' : y.val = o + k + 516 * j := e; show y.val = o + 516 * j + k; omega)

/-- One trip of the gather loop extends the rows gathered by one. -/
theorem gathered_step (t7 : S1792x2x128.Idx → F .bf16) (h : Fin 2) (k : Fin 512) (P0 P1 : S8x2x128.Idx → F .bf16)
    (h0 : ∀ (r : Fin 8) (p : Fin 2) (l : Fin 128) (R : Fin 1792), R.val = 16 * word c arg1 T (1024 * (i 0).val + 2 * k + p.val) (by have : (i 0).val < 14 := (i 0).isLt; omega) + r.val → P0 (ix3 r p l) = t7 (ix3 R h l))
    (h1 : ∀ (r : Fin 8) (p : Fin 2) (l : Fin 128) (R : Fin 1792), R.val = 16 * word c arg1 T (1024 * (i 0).val + 2 * k + p.val) (by have : (i 0).val < 14 := (i 0).isLt; omega) + 8 + r.val → P1 (ix3 r p l) = t7 (ix3 R h l))
    (off0 off1 : Fin 3 → ℕ) (hoff0 : off0 = ![0 + k.val, 0, 0]) (hoff1 : off1 = ![4128 + k.val, 0, 0])
    (inb0 : ∀ a, S8x2x128.size a = 0 ∨ off0 a + (![516, 1, 1] : Fin 3 → ℕ) a * (S8x2x128.size a - 1) < S8256x2x128.size a)
    (inb1 : ∀ a, S8x2x128.size a = 0 ∨ off1 a + (![516, 1, 1] : Fin 3 → ℕ) a * (S8x2x128.size a - 1) < S8256x2x128.size a)
    (sp0 sp1 : ∀ a : Fin 3, 0 < (![516, 1, 1] : Fin 3 → ℕ) a)
    (hf : Gathered c i arg1 T t7 h (v.read (Elt F) f) k) :
    Gathered c i arg1 T t7 h (v.read (Elt F) (v.writes (Elt F) f
      [⟨⟨⟨off1, S8x2x128.size, ![516, 1, 1], inb1⟩, sp1⟩, P1⟩, ⟨⟨⟨off0, S8x2x128.size, ![516, 1, 1], inb0⟩, sp0⟩, P0⟩])) (k + 1) := by
  intro k' hk' hlt cc p l R hR
  have hk : k.val < 512 := k.isLt
  by_cases hkk : k' = k.val
  · subst hkk
    by_cases hc : cc.val < 8
    · rw [stride_miss v f off1 _ _ hoff1 inb1 sp1 P1 _ p l _ (fun r => by have := r.isLt; show 516 * cc.val + k.val ≠ _; omega),
        stride_hit v f off0 _ _ hoff0 inb0 sp0 P0 _ ⟨cc.val, hc⟩ p l _ (by show 516 * cc.val + k.val = 0 + 516 * cc.val + k.val; omega)]
      exact h0 _ p l R hR
    · rw [stride_hit v f off1 _ _ hoff1 inb1 sp1 P1 _ ⟨cc.val - 8, by omega⟩ p l _ (by show 516 * cc.val + k.val = 4128 + 516 * (cc.val - 8) + k.val; omega)]
      exact h1 _ p l R (by show R.val = _ + 8 + (cc.val - 8); omega)
  · rw [stride_miss v f off1 _ _ hoff1 inb1 sp1 P1 _ p l _ (fun r => by have := r.isLt; show 516 * cc.val + k' ≠ _; omega),
      stride_miss v f off0 _ _ hoff0 inb0 sp0 P0 _ p l _ (fun r => by have := r.isLt; show 516 * cc.val + k' ≠ _; omega)]
    exact hf k' hk' (by omega) cc p l R hR

/-- Eight table rows as the kernel loads them. -/
theorem rows_at (v7 : View sig .tc .vmem S1792x2x128 .bf16) (f7 : v7.ty.Contents (Elt F)) (off : Fin 3 → ℕ) (o : ℕ) (hoff : off = ![o, 0, 0])
    (inb : ∀ a, off a + S8x2x128.size a ≤ S1792x2x128.size a) (r : Fin 8) (h : Fin 2) (l : Fin 128) (R : Fin 1792) (hR : R.val = o + r.val) :
    (v7.readAt (Elt F) (Rect.unit (s := S1792x2x128) off S8x2x128.size inb).toLoadRect f7 : S8x2x128.Idx → F .bf16) (ix3 r h l) = v7.read (Elt F) f7 (ix3 R h l) := by
  subst hoff
  refine congrArg (v7.read (Elt F) f7) (funext fun a => Fin.ext ?_)
  match a with
  | ⟨0, _⟩ => show o + 1 * r.val = R.val; omega
  | ⟨1, _⟩ => show 0 + 1 * h.val = h.val; omega
  | ⟨2, _⟩ => show 0 + 1 * l.val = l.val; omega

/-- A word as the kernel loads it. -/
theorem word_at (off : Fin 1 → ℕ) (n : ℕ) (hn : n < 14336) (hoff : off = ![n]) (inb : ∀ a, off a + S1.size a ≤ S14336.size a) (y : S1.Idx) :
    (arg1.view.readAt (Elt F) (Rect.unit (s := S14336) off S1.size inb).toLoadRect T y : BitVec 32).toNat = word c arg1 T n hn := by
  subst hoff
  refine congrArg (fun y => (arg1.view.read (Elt F) T y : BitVec 32).toNat) (funext fun a => Fin.ext ?_)
  match a with
  | ⟨0, _⟩ =>
    have : (y 0).val < 1 := (y 0).isLt
    show n + 1 * (y 0).val = n; omega

end Step

/-- The gather loop's invariant. -/
@[sl_loop, instance_reducible] noncomputable def loopInv (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole) (v3 : BitVec 32)
    (T : Buf (Elt F) (arg1.view.loc (c : Thread nD τ))) (hT : WordsOK c arg1 T)
    (f7 : Buf (Elt F) (arg7.view.loc (c : Thread nD τ))) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 v3 where
  inv := fun n _ => iprop((arg1.view.loc (c : Thread nD τ) ↦[arg1.view.set]{fullShare.right} T)
      ∗ (arg7.view.loc (c : Thread nD τ) ↦[arg7.view.set]{fullShare} f7)
      ∗ (∃ f, ⌜GatheredN c i arg1 T (arg7.view.read (Elt F) f7) 0 (arg8.view.read (Elt F) f) n = True⌝ ∗ arg8.view.loc (c : Thread nD τ) ↦[arg8.view.set]{fullShare} f)
      ∗ (∃ f, ⌜GatheredN c i arg1 T (arg7.view.read (Elt F) f7) 1 (arg9.view.read (Elt F) f) n = True⌝ ∗ arg9.view.loc (c : Thread nD τ) ↦[arg9.view.set]{fullShare} f))
  step := fun k acc => by
    unfold k0_t1_body
    iintro ⟨H1, H7, ⟨%f8, %hf8, H8⟩, ⟨%f9, %hf9, H9⟩⟩
    sl_exec_parts (disch := first | exact chk1_of_lt _ (hT _ _) | exact chk2_of_lt _ (hT _ _))
    sl_step
    isplitl [H1]; · iexact H1
    isplitl [H7]; · iexact H7
    isplitl [H8]
    · iexists _
      isplitr [H8]
      rotate_left
      · iexact H8
      · ipureintro
        rw [gatheredN_iff] at hf8 ⊢
        refine gathered_step arg8.view f8 _ 0 k _ _ (fun r p l R hR => ?_) (fun r p l R hR => ?_) _ _ (off5_eq k _ (by decide)) (off5_eq k _ (by decide)) _ _ _ _ hf8
        · have hr := r.isLt
          refine (pay27_at _ _ r p l).trans ?_
          match p, hR with
          | 0, hR => exact rows_at arg7.view f7 _ _ (off3_eq _ (hT _ _) _ (by decide)) _ r 0 l R (hR.trans (by
              refine congrArg (fun z => 16 * z + r.val) ?_
              exact (word_at _ _ _ (off1_eq i k) _ _).symm))
          | 1, hR => exact rows_at arg7.view f7 _ _ (off4_eq _ (hT _ _) _ (by decide)) _ r 0 l R (hR.trans (by
              refine congrArg (fun z => 16 * z + r.val) ?_
              exact (word_at _ _ _ (off2_eq i k) _ _).symm))
        · have hr := r.isLt
          refine (pay69_at _ _ r p l).trans ?_
          match p, hR with
          | 0, hR => exact rows_at arg7.view f7 _ _ (off3_eq _ (hT _ _) _ (by decide)) _ r 0 l R (hR.trans (by
              refine congrArg (fun z => 16 * z + 8 + r.val) ?_
              exact (word_at _ _ _ (off1_eq i k) _ _).symm))
          | 1, hR => exact rows_at arg7.view f7 _ _ (off4_eq _ (hT _ _) _ (by decide)) _ r 0 l R (hR.trans (by
              refine congrArg (fun z => 16 * z + 8 + r.val) ?_
              exact (word_at _ _ _ (off2_eq i k) _ _).symm))
    · iexists _
      isplitr [H9]
      rotate_left
      · iexact H9
      · ipureintro
        rw [gatheredN_iff] at hf9 ⊢
        refine gathered_step arg9.view f9 _ 1 k _ _ (fun r p l R hR => ?_) (fun r p l R hR => ?_) _ _ (off5_eq k _ (by decide)) (off5_eq k _ (by decide)) _ _ _ _ hf9
        · have hr := r.isLt
          refine (pay68_at _ _ r p l).trans ?_
          match p, hR with
          | 0, hR => exact rows_at arg7.view f7 _ _ (off3_eq _ (hT _ _) _ (by decide)) _ r 1 l R (hR.trans (by
              refine congrArg (fun z => 16 * z + r.val) ?_
              exact (word_at _ _ _ (off1_eq i k) _ _).symm))
          | 1, hR => exact rows_at arg7.view f7 _ _ (off4_eq _ (hT _ _) _ (by decide)) _ r 1 l R (hR.trans (by
              refine congrArg (fun z => 16 * z + r.val) ?_
              exact (word_at _ _ _ (off2_eq i k) _ _).symm))
        · have hr := r.isLt
          refine (pay70_at _ _ r p l).trans ?_
          match p, hR with
          | 0, hR => exact rows_at arg7.view f7 _ _ (off3_eq _ (hT _ _) _ (by decide)) _ r 1 l R (hR.trans (by
              refine congrArg (fun z => 16 * z + 8 + r.val) ?_
              exact (word_at _ _ _ (off1_eq i k) _ _).symm))
          | 1, hR => exact rows_at arg7.view f7 _ _ (off4_eq _ (hT _ _) _ (by decide)) _ r 1 l R (hR.trans (by
              refine congrArg (fun z => 16 * z + 8 + r.val) ?_
              exact (word_at _ _ _ (off2_eq i k) _ _).symm))

end Cert.Proof.Val

end
-- ==== Proof.ValBits.lean ====
/- The four-bit code of a word, as the kernel's shifts give it and as the reference's give it. -/
module

public import Idealize.ShloMosaic.Lib.Pointwise

@[expose] public section

noncomputable section

namespace Cert.Proof.Val

open Idealize.ShloMosaic

/-- The two readings of each of the sixteen codes differ by eight. -/
theorem nibble (n : BitVec 4) : ((n ^^^ 8#4).signExtend 32).toInt = (n.setWidth 32).toInt - 8 := by
  revert n; decide

theorem signed_nibble (w : BitVec 32) (k : Fin 8) :
    BitVec.sshiftRight ((w ^^^ 2290649224#32) <<< (28 - 4 * k.val)) 28 = ((w.extractLsb' (4 * k.val) 4) ^^^ 8#4).signExtend 32 := by
  fin_cases k <;>
  · refine BitVec.eq_of_getLsbD_eq fun i hi => ?_
    interval_cases i <;> simp [BitVec.getLsbD_sshiftRight, BitVec.getLsbD_signExtend, BitVec.getLsbD_shiftLeft, BitVec.msb_eq_getLsbD_last, BitVec.getElem_sshiftRight, BitVec.getElem_signExtend]

theorem unsigned_nibble (w : BitVec 32) (k : Fin 8) :
    (BitVec.sshiftRight w (4 * k.val)) &&& 15#32 = (w.extractLsb' (4 * k.val) 4).setWidth 32 := by
  fin_cases k <;>
  · refine BitVec.eq_of_getLsbD_eq fun i hi => ?_
    interval_cases i <;> simp [BitVec.getLsbD_sshiftRight, BitVec.getElem_sshiftRight]

theorem code_eq (w : BitVec 32) (k : Fin 8) :
    (BitVec.sshiftRight ((w ^^^ 2290649224#32) <<< (28 - 4 * k.val)) 28).toInt = ((BitVec.sshiftRight w (4 * k.val)) &&& 15#32).toInt - 8 := by
  rw [signed_nibble, unsigned_nibble, nibble]

/-- A zero point less eight does not wrap. -/
theorem zero_eq (v : BitVec 8) (hi : Bool) :
    (IntOp.subi (if hi then v.setWidth 32 >>> 4 else v.setWidth 32 &&& 15#32) 8#32).toInt = (if hi then v.setWidth 32 >>> 4 else v.setWidth 32 &&& 15#32).toInt - 8 := by
  revert v hi; decide

end Cert.Proof.Val

end
-- ==== Proof.ValStep.lean ====
/- One point's step over the whole operands, and the sum the points leave. -/
module

public import proofs.«01_k».proof.Proof.ValTable
public import proofs.«01_k».proof.Proof.ValLoop
public import proofs.«01_k».proof.Proof.ValBits

@[expose] public section

noncomputable section

namespace Cert.Proof.Val

open Cert.KernelIdeal Cert.KernelIdeal.Gen
open Idealize.ShloMosaic Idealize.ShloMosaic.TcCoe Idealize.ShloMosaic.Tactic

variable (X : S128x14336.Idx → EReal) (Q : S1792x3584.Idx → BitVec 32) (S : S112x3584.Idx → EReal) (Z : S56x3584.Idx → BitVec 8) (G : Fin 14336 → Fin 112)

/-- One product of the accumulation. -/
def term (b : Fin 128) (o : Fin 3584) (i : Fin 14336) : EReal :=
  X (ix2 b i) * (code8 (Q (ix2 (⟨i.val / 8, by omega⟩ : Fin 1792) o)) (i.val % 8) * S (ix2 (G i) o))

/-- One activation, in the sum of its own group. -/
def xterm (b : Fin 128) (g : Fin 128) (i : Fin 14336) : EReal := X (ix2 b i) * if g.val = (G i).val then 1 else 0

/-- A sum of the first `n` of them. -/
def upTo (f : Fin 14336 → EReal) (n : ℕ) : EReal := ∑ j ∈ Finset.range n, if h : j < 14336 then f ⟨j, h⟩ else 0

theorem upTo_zero (f : Fin 14336 → EReal) : upTo f 0 = 0 := rfl

theorem upTo_all (f : Fin 14336 → EReal) : upTo f 14336 = ∑ i, f i := by
  unfold upTo
  rw [Finset.sum_range]
  exact Finset.sum_congr rfl fun i _ => dif_pos i.isLt

theorem upTo_step (f : Fin 14336 → EReal) (t : ℕ) (ht : t < 14) (n' : ℕ) (hn' : n' = 1024 * (t + 1)) :
    upTo f (1024 * t) + ∑ j : Fin 1024, f ⟨1024 * t + j.val, by omega⟩ = upTo f n' := by
  subst hn'
  unfold upTo
  rw [show 1024 * (t + 1) = 1024 * t + 1024 from by omega, Finset.sum_range_add]
  congr 1
  rw [Finset.sum_range]
  exact Finset.sum_congr rfl fun i _ => by rw [dif_pos (show 1024 * t + i.val < 14336 by omega)]

/-- What the accumulator holds after `n` rows. -/
def AccI (n : ℕ) (acc : S128x3584.Idx → EReal) : Prop := ∀ (b : Fin 128) (o : Fin 3584), acc (ix2 b o) = upTo (term X Q S G b o) n

/-- What the group sums hold after `n` rows. -/
def XgI (n : ℕ) (xg : S128x128.Idx → EReal) : Prop := ∀ (b g : Fin 128), xg (ix2 b g) = upTo (xterm X G b g) n

section Step

variable {X Q S G}
variable {c : Dev nD} {i : grid0.Coords} {arg1 : Memref sig .tc .smem S14336 .i32} {T : Buf (Elt Ideal) (arg1.view.loc (c : Thread nD τ))}
variable {t7 : S1792x2x128.Idx → Elt Ideal .bf16} {s8 s9 : S8256x2x128.Idx → Elt Ideal .bf16}
variable {x : S128x1024.Idx → Elt Ideal .bf16} {q : S128x3584.Idx → Elt Ideal .i32}

theorem slab_at (hG : ∀ n (hn : n < 14336), word c arg1 T n hn = (G ⟨n, hn⟩).val) (ht7 : TblOK S t7) {t : ℕ} (ht : (i 0).val = t) (htl : t < 14) (h : Fin 2)
    {s : S8256x2x128.Idx → Elt Ideal .bf16} (hs : Gathered c i arg1 T t7 h s 512) (n : ℕ) (hn : n < 14) (j : Fin 1024) (l : Fin 128) :
    ldS s (516 * n) (by omega) (ix3 (⟨j.val / 2, by omega⟩ : Fin 512) (⟨j.val % 2, by omega⟩ : Fin 2) l)
      = S (ix2 (G ⟨1024 * t + j.val, by omega⟩) (⟨256 * n + 128 * h.val + l.val, by omega⟩ : Fin 3584)) := by
  subst ht
  have hg := (G ⟨1024 * (i 0).val + j.val, by omega⟩).isLt
  rw [ldS_at]
  refine (hs (j.val / 2) (by omega) (by omega) ⟨n, by omega⟩ ⟨j.val % 2, by omega⟩ l (⟨16 * (G ⟨1024 * (i 0).val + j.val, by omega⟩).val + n, by omega⟩ : Fin 1792) ?_).trans ?_
  · rw [hG]
    show 16 * (G ⟨1024 * (i 0).val + j.val, by omega⟩).val + n = 16 * (G ⟨1024 * (i 0).val + 2 * (j.val / 2) + j.val % 2, by omega⟩).val + n
    have e : (⟨1024 * (i 0).val + 2 * (j.val / 2) + j.val % 2, by omega⟩ : Fin 14336) = ⟨1024 * (i 0).val + j.val, by omega⟩ := Fin.ext (by show 1024 * (i 0).val + 2 * (j.val / 2) + j.val % 2 = 1024 * (i 0).val + j.val; omega)
    rw [e]
  · exact ht7.1 n hn _ h l _ rfl

theorem hots_at (hG : ∀ n (hn : n < 14336), word c arg1 T n hn = (G ⟨n, hn⟩).val) (ht7 : TblOK S t7) {t : ℕ} (ht : (i 0).val = t) (htl : t < 14)
    (hs : Gathered c i arg1 T t7 0 s8 512) (j : Fin 1024) (l : Fin 128) :
    ldS s8 7224 (by decide) (ix3 (⟨j.val / 2, by omega⟩ : Fin 512) (⟨j.val % 2, by omega⟩ : Fin 2) l)
      = if l.val = (G ⟨1024 * t + j.val, by omega⟩).val then 1 else 0 := by
  subst ht
  have hg := (G ⟨1024 * (i 0).val + j.val, by omega⟩).isLt
  rw [ldS_at]
  refine (hs (j.val / 2) (by omega) (by omega) ⟨14, by omega⟩ ⟨j.val % 2, by omega⟩ l (⟨16 * (G ⟨1024 * (i 0).val + j.val, by omega⟩).val + 14, by omega⟩ : Fin 1792) ?_).trans ?_
  · rw [hG]
    show 16 * (G ⟨1024 * (i 0).val + j.val, by omega⟩).val + 14 = 16 * (G ⟨1024 * (i 0).val + 2 * (j.val / 2) + j.val % 2, by omega⟩).val + 14
    have e : (⟨1024 * (i 0).val + 2 * (j.val / 2) + j.val % 2, by omega⟩ : Fin 14336) = ⟨1024 * (i 0).val + j.val, by omega⟩ := Fin.ext (by show 1024 * (i 0).val + 2 * (j.val / 2) + j.val % 2 = 1024 * (i 0).val + j.val; omega)
    rw [e]
  · exact ht7.2 _ l _ rfl

theorem code_row {t : ℕ} (htl : t < 14) (hq : ∀ (r : Fin 128) (o : Fin 3584), q (ix2 r o) = Q (ix2 (⟨128 * t + r.val, by omega⟩ : Fin 1792) o)) (o : Fin 3584) (j : Fin 1024) :
    code8 (q (ix2 (⟨j.val / 8, by omega⟩ : Fin 128) o)) (j.val % 8)
      = code8 (Q (ix2 (⟨(1024 * t + j.val) / 8, by omega⟩ : Fin 1792) o)) ((1024 * t + j.val) % 8) := by
  rw [hq]
  have e1 : (⟨128 * t + (⟨j.val / 8, by omega⟩ : Fin 128).val, by show 128 * t + j.val / 8 < 1792; omega⟩ : Fin 1792) = ⟨(1024 * t + j.val) / 8, by omega⟩ :=
    Fin.ext (by show 128 * t + j.val / 8 = (1024 * t + j.val) / 8; omega)
  have e2 : j.val % 8 = (1024 * t + j.val) % 8 := by omega
  rw [e1, ← e2]

theorem acc_step (hG : ∀ n (hn : n < 14336), word c arg1 T n hn = (G ⟨n, hn⟩).val) (ht7 : TblOK S t7) {t : ℕ} (ht : (i 0).val = t) (htl : t < 14)
    (hx : ∀ (b : Fin 128) (j : Fin 1024), x (ix2 b j) = X (ix2 b (⟨1024 * t + j.val, by omega⟩ : Fin 14336)))
    (hq : ∀ (r : Fin 128) (o : Fin 3584), q (ix2 r o) = Q (ix2 (⟨128 * t + r.val, by omega⟩ : Fin 1792) o))
    (h8 : Gathered c i arg1 T t7 0 s8 512) (h9 : Gathered c i arg1 T t7 1 s9 512) {acc acc' : S128x3584.Idx → Elt Ideal .f32}
    (ha : AccOK x q s8 s9 acc acc') (h : AccI X Q S G (1024 * t) acc) : AccI X Q S G (1024 * (t + 1)) acc' := by
  intro b o
  obtain ⟨n, hn, l, rfl⟩ : ∃ (n : ℕ) (hn : n < 14) (l : Fin 256), o = (⟨256 * n + l.val, by omega⟩ : Fin 3584) :=
    ⟨o.val / 256, by omega, ⟨o.val % 256, by omega⟩, Fin.ext (by show o.val = 256 * (o.val / 256) + o.val % 256; omega)⟩
  rw [ha n hn b l, ← upTo_step _ t htl _ rfl, ← h]
  by_cases hl : l.val < 128
  · have ex : ∃ l' : Fin 128, l = (⟨l'.val, Nat.lt_trans l'.isLt (by decide)⟩ : Fin 256) := ⟨⟨l.val, hl⟩, rfl⟩
    obtain ⟨l', rfl⟩ := ex
    refine (tilePay_lo _ _ _ _ _ _ b l').trans ?_
    rw [ldA_at]
    congr 1
    refine Finset.sum_congr rfl fun j _ => ?_
    rw [xOf_at, hx, ldQ_at, slab_at hG ht7 ht htl 0 h8 n hn j l', code_row htl hq]
    rfl
  · have ex : ∃ l' : Fin 128, l = (⟨128 + l'.val, Nat.add_lt_add_left l'.isLt 128⟩ : Fin 256) := ⟨⟨l.val - 128, by omega⟩, Fin.ext (by show l.val = 128 + (l.val - 128); omega)⟩
    obtain ⟨l', rfl⟩ := ex
    refine (tilePay_hi _ _ _ _ _ _ b l').trans ?_
    rw [ldA_at]
    congr 1
    refine Finset.sum_congr rfl fun j _ => ?_
    rw [xOf_at, hx, ldQ_at, slab_at hG ht7 ht htl 1 h9 n hn j l', code_row htl hq]
    have e : (⟨256 * n + 128 + l'.val, by omega⟩ : Fin 3584) = ⟨256 * n + (128 + l'.val), by omega⟩ := Fin.ext (by show 256 * n + 128 + l'.val = 256 * n + (128 + l'.val); omega)
    have e2 : (⟨256 * n + 128 * (1 : Fin 2).val + l'.val, by show 256 * n + 128 * 1 + l'.val < 3584; omega⟩ : Fin 3584) = ⟨256 * n + (128 + l'.val), by omega⟩ := Fin.ext (by show 256 * n + 128 * 1 + l'.val = 256 * n + (128 + l'.val); omega)
    rw [e, e2]
    rfl

theorem xg_step (hG : ∀ n (hn : n < 14336), word c arg1 T n hn = (G ⟨n, hn⟩).val) (ht7 : TblOK S t7) {t : ℕ} (ht : (i 0).val = t) (htl : t < 14)
    (hx : ∀ (b : Fin 128) (j : Fin 1024), x (ix2 b j) = X (ix2 b (⟨1024 * t + j.val, by omega⟩ : Fin 14336)))
    (h8 : Gathered c i arg1 T t7 0 s8 512) {xg : S128x128.Idx → Elt Ideal .f32} (h : XgI X G (1024 * t) xg) :
    XgI X G (1024 * (t + 1)) (xgNext (xOf x) s8 xg) := by
  intro b g
  rw [xgNext_at, ← upTo_step _ t htl _ rfl, ← h]
  congr 1
  refine Finset.sum_congr rfl fun j _ => ?_
  rw [xOf_at, hx, hots_at hG ht7 ht htl h8]
  rfl

end Step

theorem accI_zero : AccI X Q S G (1024 * 0) (k0_pay66 (F := Ideal)) := fun b o => zero66_at b o
theorem xgI_zero : XgI X G (1024 * 0) (k0_pay67 (F := Ideal)) := fun b g => zero67_at b g

/-! ## The sum the reference takes -/

/-- The code at place `k` of a word. -/
def codeU (w : BitVec 32) (k : ℕ) : EReal := ((((BitVec.sshiftRight w (4 * k)) &&& 15#32).toInt : ℝ) : EReal)

/-- A zero point, from the bytes that hold two. -/
def zeroU (z : S56x3584.Idx → BitVec 8) (g : Fin 112) (o : Fin 3584) : EReal :=
  (((if h : g.val < 56 then BitVec.setWidth 32 (z (ix2 ⟨g.val, h⟩ o)) &&& 15#32
    else BitVec.setWidth 32 (z (ix2 ⟨g.val - 56, by omega⟩ o)) >>> 4).toInt : ℝ) : EReal)

/-- The whole product. -/
def result (b : Fin 128) (o : Fin 3584) : EReal :=
  ∑ i : Fin 14336, X (ix2 b i) * ((codeU (Q (ix2 (⟨i.val / 8, by omega⟩ : Fin 1792) o)) (i.val % 8) - zeroU Z (G i) o) * S (ix2 (G i) o))

theorem code8_eq (w : BitVec 32) (k : ℕ) (hk : k < 8) : ∃ r : ℝ, codeU w k = ((r : ℝ) : EReal) ∧ code8 w k = ((r - 8 : ℝ) : EReal) := by
  refine ⟨_, rfl, ?_⟩
  unfold code8
  have h := code_eq w ⟨k, hk⟩
  rw [h]
  push_cast
  rfl

theorem zero8_eq (z : S56x3584.Idx → BitVec 8) (g : Fin 112) (o : Fin 3584) : ∃ r : ℝ, zeroU z g o = ((r : ℝ) : EReal) ∧ zero8 z g o = ((r - 8 : ℝ) : EReal) := by
  refine ⟨_, rfl, ?_⟩
  unfold zero8
  by_cases h : g.val < 56
  · rw [dif_pos h, dif_pos h]
    have e := zero_eq (z (ix2 ⟨g.val, h⟩ o)) false
    simp only [Bool.false_eq_true, if_false] at e
    rw [show IntOp.andi (BitVec.setWidth 32 (z (ix2 ⟨g.val, h⟩ o))) 15#32 = BitVec.setWidth 32 (z (ix2 ⟨g.val, h⟩ o)) &&& 15#32 from rfl, e]
    push_cast
    rfl
  · rw [dif_neg h, dif_neg h]
    have e := zero_eq (z (ix2 ⟨g.val - 56, by omega⟩ o)) true
    simp only [if_true] at e
    rw [show IntOp.shrui ArithUnit.vector (BitVec.setWidth 32 (z (ix2 ⟨g.val - 56, by omega⟩ o))) 4#32 = BitVec.setWidth 32 (z (ix2 ⟨g.val - 56, by omega⟩ o)) >>> 4 from rfl, e]
    push_cast
    rfl

theorem coe_sum {n : ℕ} (f : Fin n → ℝ) : ((∑ i, f i : ℝ) : EReal) = ∑ i, ((f i : ℝ) : EReal) :=
  map_sum (⟨⟨Real.toEReal, EReal.coe_zero⟩, EReal.coe_add⟩ : ℝ →+ EReal) f Finset.univ

theorem sub_self_coe (r : ℝ) : (r : EReal) - (r : EReal) = 0 := by
  rw [← EReal.coe_sub, sub_self, EReal.coe_zero]

section Final

variable {X Q S Z G}

/-- At finite activations and scales, what the last step leaves is the whole product. -/
theorem final_eq (xr : Fin 128 → Fin 14336 → ℝ) (hX : ∀ b i, X (ix2 b i) = ((xr b i : ℝ) : EReal))
    (sr : Fin 112 → Fin 3584 → ℝ) (hS : ∀ g o, S (ix2 g o) = ((sr g o : ℝ) : EReal))
    {xg : S128x128.Idx → Elt Ideal .f32} {acc : S128x3584.Idx → Elt Ideal .f32} {out : S128x3584.Idx → Elt Ideal .bf16}
    (hacc : AccI X Q S G 14336 acc) (hxg : XgI X G 14336 xg) (ho : OutOK xg S Z acc out) (b : Fin 128) (o : Fin 3584) :
    out (ix2 b o) = result X Q S Z G b o := by
  -- the zero points' rows as reals
  choose zr hzU hz8 using fun g : Fin 112 => zero8_eq Z g o
  choose cr hcU hc8 using fun i : Fin 14336 => code8_eq (Q (ix2 (⟨i.val / 8, by omega⟩ : Fin 1792) o)) (i.val % 8) (by omega)
  have hzs : ∀ g : Fin 128, zs Z S o g = (((if h : g.val < 112 then (zr ⟨g.val, h⟩ - 8) * sr ⟨g.val, h⟩ o else 0 : ℝ)) : EReal) := fun g => by
    unfold zs
    split
    · next h => rw [hz8, hS, ← EReal.coe_mul]
    · next h => rw [EReal.coe_zero]
  have hxgr : ∀ g : Fin 128, xg (ix2 b g) = ((∑ i, xr b i * (if g.val = (G i).val then 1 else 0 : ℝ) : ℝ) : EReal) := fun g => by
    rw [hxg, upTo_all, coe_sum]
    refine Finset.sum_congr rfl fun i _ => ?_
    unfold xterm
    rw [hX]
    split
    · rw [mul_one, mul_one]
    · rw [mul_zero, mul_zero, EReal.coe_zero]
  have haccr : acc (ix2 b o) = ((∑ i, xr b i * ((cr i - 8) * sr (G i) o) : ℝ) : EReal) := by
    rw [hacc, upTo_all, coe_sum]
    refine Finset.sum_congr rfl fun i _ => ?_
    unfold term
    rw [hX, hc8, hS, ← EReal.coe_mul, ← EReal.coe_mul]
  have hres : result X Q S Z G b o = ((∑ i, xr b i * ((cr i - zr (G i)) * sr (G i) o) : ℝ) : EReal) := by
    unfold result
    rw [coe_sum]
    refine Finset.sum_congr rfl fun i _ => ?_
    rw [hX, hcU, hzU, hS, ← EReal.coe_sub, ← EReal.coe_mul, ← EReal.coe_mul]
  have hout : out (ix2 b o) = acc (ix2 b o) - ∑ g : Fin 128, xg (ix2 b g) * zs Z S o g := by
    obtain ⟨n, hn, l, rfl⟩ : ∃ (n : ℕ) (hn : n < 14) (l : Fin 256), o = (⟨256 * n + l.val, by omega⟩ : Fin 3584) :=
      ⟨o.val / 256, by omega, ⟨o.val % 256, by omega⟩, Fin.ext (by show o.val = 256 * (o.val / 256) + o.val % 256; omega)⟩
    rw [ho n hn b l]
    refine (outTile_at xg S Z n hn _ b l (fun g => by rw [hxgr]; exact sub_self_coe _) (fun g => by rw [hzs]; exact sub_self_coe _)).trans ?_
    rw [ldA_at]
  rw [hout, haccr, hres]
  simp only [hxgr, hzs, ← EReal.coe_mul]
  rw [← coe_sum, ← EReal.coe_sub]
  refine congrArg Real.toEReal ?_
  have hswap : ∑ g : Fin 128, (∑ i, xr b i * (if g.val = (G i).val then 1 else 0 : ℝ)) * (if h : g.val < 112 then (zr ⟨g.val, h⟩ - 8) * sr ⟨g.val, h⟩ o else 0 : ℝ)
      = ∑ i, xr b i * ((zr (G i) - 8) * sr (G i) o) := by
    simp only [Finset.sum_mul]
    rw [Finset.sum_comm]
    refine Finset.sum_congr rfl fun i _ => ?_
    have hGi := (G i).isLt
    rw [Finset.sum_eq_single (⟨(G i).val, by omega⟩ : Fin 128)]
    · rw [if_pos rfl, dif_pos hGi, mul_one]
    · intro g _ hg
      rw [if_neg (fun e => hg (Fin.ext e)), mul_zero, zero_mul]
    · intro h; exact absurd (Finset.mem_univ _) h
  rw [hswap, ← Finset.sum_sub_distrib]
  refine Finset.sum_congr rfl fun i _ => ?_
  ring

end Final

end Cert.Proof.Val

end
-- ==== Proof.ValMid.lean ====
/- The body at an inner point, with what it writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.FrameKI
public import proofs.«01_k».proof.Proof.ValLoop
public import proofs.«01_k».proof.Proof.ValTile
public import Idealize.ShloMosaic.Adequacy
public import Idealize.ShloMosaic.Init
public import Idealize.ShloMosaic.Lib.Tactic
public import Idealize.ShloMosaic.Lib.Pipeline.FrameSuffix

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdealFrame (UU 𝒱₀ WordsOK chk1_of_lt chk2_of_lt)

local notation "𝕄" => MT nD τ sig Unit (Elt F) ℕ (UU nD τ) ℕ

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole)

/-- What a point leaves in the slabs, the accumulator and the group sums. -/
def after (T : Buf (Elt F) (arg1.view.loc (c : Thread nD τ)))
    (f2 : Buf (Elt F) (arg2.view.loc (c : Thread nD τ))) (f3 : Buf (Elt F) (arg3.view.loc (c : Thread nD τ)))
    (f7 : Buf (Elt F) (arg7.view.loc (c : Thread nD τ))) (acc : S128x3584.Idx → Elt F .f32) (xg : S128x128.Idx → Elt F .f32)
    (rest : (S128x3584.Idx → Elt F .f32) → (S128x128.Idx → Elt F .f32) → sProp 𝕄) : sProp 𝕄 :=
  iprop(∃ (f8 : Buf (Elt F) (arg8.view.loc (c : Thread nD τ))) (f9 : Buf (Elt F) (arg9.view.loc (c : Thread nD τ)))
      (f10' : Buf (Elt F) (arg10.view.loc (c : Thread nD τ))) (f11' : Buf (Elt F) (arg11.view.loc (c : Thread nD τ))),
    ⌜Gathered c i arg1 T (arg7.view.read (Elt F) f7) 0 (arg8.view.read (Elt F) f8) 512
      ∧ Gathered c i arg1 T (arg7.view.read (Elt F) f7) 1 (arg9.view.read (Elt F) f9) 512
      ∧ AccOK (arg2.view.read (Elt F) f2) (arg3.view.read (Elt F) f3) (arg8.view.read (Elt F) f8) (arg9.view.read (Elt F) f9) acc (arg10.view.read (Elt F) f10')
      ∧ arg11.view.read (Elt F) f11' = xgNext (xOf (arg2.view.read (Elt F) f2)) (arg8.view.read (Elt F) f8) xg⌝
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10')
    ∗ (arg11.view.loc (c : Thread nD τ) ↦[arg11.view.set]{fullShare} f11')
    ∗ rest (arg10.view.read (Elt F) f10') (arg11.view.read (Elt F) f11'))

set_option maxRecDepth 16384 in
set_option maxHeartbeats 4000000 in
theorem body_mid (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : ¬ k0_cond2 i = 1#1)
    (f2 : Buf (Elt F) (arg2.view.loc (c : Thread nD τ))) (f3 : Buf (Elt F) (arg3.view.loc (c : Thread nD τ)))
    (f7 : Buf (Elt F) (arg7.view.loc (c : Thread nD τ))) (f8 : Buf (Elt F) (arg8.view.loc (c : Thread nD τ))) (f9 : Buf (Elt F) (arg9.view.loc (c : Thread nD τ)))
    (f10 : Buf (Elt F) (arg10.view.loc (c : Thread nD τ))) (f11 : Buf (Elt F) (arg11.view.loc (c : Thread nD τ))) :
    iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11) : sProp 𝕄)
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg7.view.loc (c : Thread nD τ) ↦[arg7.view.set]{fullShare} f7)
    ∗ after c i arg1 arg2 arg3 arg7 arg8 arg9 arg10 arg11 T f2 f3 f7 (arg10.view.read (Elt F) f10) (arg11.view.read (Elt F) f11) fun _ _ => iprop(emp)) := by
  iintro ⟨H1, H2, H3, H7, H8, H9, H10, H11⟩
  sl_unfold [cc0_gptq_int4_linear]
  sl_exec_parts
  sl_step
  isplitl [H1]; · iexact H1
  isplitl [H2]; · iexact H2
  isplitl [H3]; · iexact H3
  isplitl [H7]; · iexact H7
  unfold after
  iexists _, _, _, _
  isplitr [H8 H9 H10 H11]
  rotate_left
  · isplitl [H8]; · iexact H8
    isplitl [H9]; · iexact H9
    isplitl [H10]; · iexact H10
    isplitl [H11]; · iexact H11
    itrivial
  · ipureintro
    refine ⟨(gatheredN_iff ..).mp ‹_›, (gatheredN_iff ..).mp ‹_›, ?_, ?_⟩
    · exact accOK_mid _ _ _ _ arg10.view f10 _ _
    · exact (xg_full arg11.view _ _ _).trans (congrArg (xgNext (xOf (arg2.view.read (Elt F) f2)) _) (View.readAt_full arg11.view f11 (off := ![0, 0]) _))

end Body

end Cert.Proof.Val

end
-- ==== Proof.ValFirst.lean ====
/- The body at the first point, with what it writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.FrameKI
public import proofs.«01_k».proof.Proof.ValMid
public import proofs.«01_k».proof.Proof.ValTile
public import Idealize.ShloMosaic.Adequacy
public import Idealize.ShloMosaic.Init
public import Idealize.ShloMosaic.Lib.Tactic
public import Idealize.ShloMosaic.Lib.Pipeline.FrameSuffix

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdealFrame (UU 𝒱₀ WordsOK chk1_of_lt chk2_of_lt)

local notation "𝕄" => MT nD τ sig Unit (Elt F) ℕ (UU nD τ) ℕ

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole)

set_option maxRecDepth 16384 in
set_option maxHeartbeats 4000000 in
theorem body_first (T : Buf (Elt F) (arg1.view.loc (c : Thread nD τ))) (hT : WordsOK c arg1 T)
    (h0 : Scalar.cmpi .ne (Scalar.extui (Scalar.cmpi .eq (BitVec.ofNat 32 (i 0).val) 0#32) : BitVec 32) 0#32 = 1#1) (h1 : ¬ k0_cond2 i = 1#1)
    (f2 : Buf (Elt F) (arg2.view.loc (c : Thread nD τ))) (f3 : Buf (Elt F) (arg3.view.loc (c : Thread nD τ)))
    (f4 : Buf (Elt F) (arg4.view.loc (c : Thread nD τ)))
    (f7 : Buf (Elt F) (arg7.view.loc (c : Thread nD τ))) (f8 : Buf (Elt F) (arg8.view.loc (c : Thread nD τ))) (f9 : Buf (Elt F) (arg9.view.loc (c : Thread nD τ)))
    (f10 : Buf (Elt F) (arg10.view.loc (c : Thread nD τ))) (f11 : Buf (Elt F) (arg11.view.loc (c : Thread nD τ))) :
    iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11) : sProp 𝕄)
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg7.view.loc (c : Thread nD τ) ↦[arg7.view.set]{fullShare} arg7.view.writes (Elt F) f7 (tblPieces (arg4.view.read (Elt F) f4)))
    ∗ after c i arg1 arg2 arg3 arg7 arg8 arg9 arg10 arg11 T f2 f3 (arg7.view.writes (Elt F) f7 (tblPieces (arg4.view.read (Elt F) f4))) (k0_pay66 (F := F)) (k0_pay67 (F := F)) fun _ _ => iprop(emp)) := by
  iintro ⟨H1, H2, H3, H4, H7, H8, H9, H10, H11⟩
  sl_unfold [cc0_gptq_int4_linear]
  sl_exec_parts
  sl_step
  isplitl [H1]; · iexact H1
  isplitl [H2]; · iexact H2
  isplitl [H3]; · iexact H3
  isplitl [H4]; · iexact H4
  isplitl [H7]
  · have e : arg7.view.writes (Elt F) f7 (tblPieces (arg4.view.read (Elt F) f4)) = arg7.view.writes (Elt F) f7
        (⟨⟨⟨![15, 0, 0], S112x2x128.size, ![16, 1, 1], inb_S1792x2x128_S112x2x128_15_0_0_s_16_1_1⟩, spos_16_1_1⟩, k0_pay62 k0_pay22 k0_pay23⟩ ::
            body_first.sl.H7_15 c arg4 f4) := rfl
    rw [e]
    iexact H7
  unfold after
  iexists _, _, _, _
  isplitr [H8 H9 H10 H11]
  rotate_left
  · isplitl [H8]; · iexact H8
    isplitl [H9]; · iexact H9
    isplitl [H10]; · iexact H10
    isplitl [H11]; · iexact H11
    itrivial
  · ipureintro
    refine ⟨(gatheredN_iff ..).mp ‹_›, (gatheredN_iff ..).mp ‹_›, ?_, ?_⟩
    · exact accOK_first _ _ _ _ arg10.view _ _
    · exact (xg_full arg11.view _ _ _).trans (congrArg (xgNext (xOf (arg2.view.read (Elt F) f2)) _) (xg_cov arg11.view _ _))

end Body

end Cert.Proof.Val

end
-- ==== Proof.ValLast.lean ====
/- The body at the last point, with what it writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.FrameKI
public import proofs.«01_k».proof.Proof.ValMid
public import proofs.«01_k».proof.Proof.ValTile
public import Idealize.ShloMosaic.Adequacy
public import Idealize.ShloMosaic.Init
public import Idealize.ShloMosaic.Lib.Tactic
public import Idealize.ShloMosaic.Lib.Pipeline.FrameSuffix

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdealFrame (UU 𝒱₀ WordsOK chk1_of_lt chk2_of_lt)

local notation "𝕄" => MT nD τ sig Unit (Elt F) ℕ (UU nD τ) ℕ

/-- `outOK_last`, with the group sums read back from their own store. -/
theorem outOK_last2 {κ : Kind} {sp sp6 sp11 : Space} (v11 : View sig κ sp11 S128x128 .f32) (f11 : v11.ty.Contents (Elt F)) (w : S128x128.Idx → Elt F .f32)
    (s : S112x3584.Idx → Elt F .bf16) (z : S56x3584.Idx → Elt F .i8)
    (v : View sig κ sp S128x3584 .f32) (f : v.ty.Contents (Elt F)) (v6 : View sig κ sp6 S128x3584 .bf16) (f6 : v6.ty.Contents (Elt F))
    (step : (n : ℕ) → n < 14 → List (View.Piece (Elt F) S128x3584 .f32) → (S128x256.Idx → Elt F .f32)) :
    OutOK (v11.read (Elt F) (v11.writes (Elt F) f11 [⟨Rect.unit (s := S128x128) ![0, 0] S128x128.size inb_S128x128_S128x128_0_0, w⟩])) s z
      (v.read (Elt F) (v.writes (Elt F) f (tiles [] step 14 (le_refl _)))) (v6.read (Elt F) (v6.writes (Elt F) f6
      (tiles [] (fun n hn _ => outTile (v11.readCov [⟨Rect.unit (s := S128x128) ![0, 0] S128x128.size inb_S128x128_S128x128_0_0, w⟩] (Rect.unit (s := S128x128) ![0, 0] S128x128.size inb_S128x128_S128x128_0_0).toLoadRect) s z n hn
        (v.readCov (tiles [] step 14 (le_refl _)) (Rect.unit (s := S128x3584) ![0, 256 * n] S128x256.size (inbT _ (by omega))).toLoadRect)) 14 (le_refl _)))) := by
  rw [xg_full v11, xg_cov v11]
  exact outOK_last _ _ _ v _ v6 _ step

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole)

set_option maxRecDepth 16384 in
set_option maxHeartbeats 4000000 in
theorem body_last (T : Buf (Elt F) (arg1.view.loc (c : Thread nD τ))) (hT : WordsOK c arg1 T)
    (h0 : ¬ Scalar.cmpi .ne (Scalar.extui (Scalar.cmpi .eq (BitVec.ofNat 32 (i 0).val) 0#32) : BitVec 32) 0#32 = 1#1) (h1 : k0_cond2 i = 1#1)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ))) (f9 : Buf (Elt F) (arg9.view.loc (c : Thread nD τ)))
    (f10 : Buf (Elt F) (arg10.view.loc (c : Thread nD τ))) (f11 : Buf (Elt F) (arg11.view.loc (c : Thread nD τ))) :
    iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11) : sProp 𝕄)
      ⊢ wp frame (wpE (defs₀ (F := F)) 𝒱₀ (c : Thread nD τ) none) Set.univ (cc0_gptq_int4_linear i arg1 harg1 arg2 harg2 arg3 harg3 arg4 harg4 arg5 harg5 arg6 harg6 arg7 harg7 arg8 harg8 arg9 harg9 arg10 harg10 arg11 harg11)
        fun _ => iprop((arg1.view.loc (c : Thread nD τ) ↦[arg1.view.set]{fullShare.right} T)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg7.view.loc (c : Thread nD τ) ↦[arg7.view.set]{fullShare} f7)
    ∗ after c i arg1 arg2 arg3 arg7 arg8 arg9 arg10 arg11 T f2 f3 f7 (arg10.view.read (Elt F) f10) (arg11.view.read (Elt F) f11)
      fun acc xg => iprop(∃ f6' : Buf (Elt F) (arg6.view.loc (c : Thread nD τ)),
        ⌜OutOK xg (arg4.view.read (Elt F) f4) (arg5.view.read (Elt F) f5) acc (arg6.view.read (Elt F) f6')⌝
          ∗ (arg6.view.loc (c : Thread nD τ) ↦[arg6.view.set]{fullShare} f6'))) := by
  iintro ⟨H1, H2, H3, H4, H5, H6, H7, H8, H9, H10, H11⟩
  sl_unfold [cc0_gptq_int4_linear]
  sl_exec_parts
  sl_step
  isplitl [H1]; · iexact H1
  isplitl [H2]; · iexact H2
  isplitl [H3]; · iexact H3
  isplitl [H4]; · iexact H4
  isplitl [H5]; · iexact H5
  isplitl [H7]; · iexact H7
  unfold after
  iexists _, _, _, _
  isplitr [H8 H9 H10 H11 H6]
  rotate_left
  · isplitl [H8]; · iexact H8
    isplitl [H9]; · iexact H9
    isplitl [H10]; · iexact H10
    isplitl [H11]; · iexact H11
    iexists _
    isplitr [H6]
    rotate_left
    · iexact H6
    · ipureintro
      exact outOK_last2 arg11.view f11 _ _ _ arg10.view _ arg6.view _ (fun n hn _ => accTile (xOf (arg2.view.read (Elt F) f2)) (arg3.view.read (Elt F) f3) (arg8.view.read (Elt F) _) (arg9.view.read (Elt F) _) n hn (ldA (arg10.view.read (Elt F) f10) (256 * n) (by omega)))
  · ipureintro
    refine ⟨(gatheredN_iff ..).mp ‹_›, (gatheredN_iff ..).mp ‹_›, ?_, ?_⟩
    · exact accOK_mid _ _ _ _ arg10.view f10 _ _
    · exact (xg_full arg11.view _ _ _).trans (congrArg (xgNext (xOf (arg2.view.read (Elt F) f2)) _) (View.readAt_full arg11.view f11 (off := ![0, 0]) _))

end Body

end Cert.Proof.Val

end
-- ==== Proof.ValPoint.lean ====
/- One grid point over the whole operands: from the sums over the rows before it to the sums over the rows after it. -/
module

public import proofs.«01_k».proof.Proof.ValStep
public import proofs.«01_k».proof.Proof.ValFirst
public import proofs.«01_k».proof.Proof.ValMid
public import proofs.«01_k».proof.Proof.ValLast

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.KernelIdealFrame (UU 𝒱₀ WordsOK)

local notation "𝕄" => MT nD τ sig Unit (Elt Ideal) ℕ (UU nD τ) ℕ

section Body

variable (c : Dev nD) (i : grid0.Coords) (arg1 : Memref sig .tc .smem S14336 .i32) (harg1 : arg1.IsWhole) (arg2 : Memref sig .tc .vmem S128x1024 .bf16) (harg2 : arg2.IsWhole) (arg3 : Memref sig .tc .vmem S128x3584 .i32) (harg3 : arg3.IsWhole) (arg4 : Memref sig .tc .vmem S112x3584 .bf16) (harg4 : arg4.IsWhole) (arg5 : Memref sig .tc .vmem S56x3584 .i8) (harg5 : arg5.IsWhole) (arg6 : Memref sig .tc .vmem S128x3584 .bf16) (harg6 : arg6.IsWhole) (arg7 : Memref sig .tc .vmem S1792x2x128 .bf16) (harg7 : arg7.IsWhole) (arg8 : Memref sig .tc .vmem S8256x2x128 .bf16) (harg8 : arg8.IsWhole) (arg9 : Memref sig .tc .vmem S8256x2x128 .bf16) (harg9 : arg9.IsWhole) (arg10 : Memref sig .tc .vmem S128x3584 .f32) (harg10 : arg10.IsWhole) (arg11 : Memref sig .tc .vmem S128x128 .f32) (harg11 : arg11.IsWhole)

variable (X : S128x14336.Idx → EReal) (Q : S1792x3584.Idx → BitVec 32) (S : S112x3584.Idx → EReal) (Z : S56x3584.Idx → BitVec 8) (G : Fin 14336 → Fin 112)

/-- What the scratch buffers hold before point `n`: the table, and the sums over the rows of the points before it. -/
def St (n : ℕ) : sProp 𝕄 :=
  iprop(∃ (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))),
    ⌜n = 0 ∨ (TblOK S (arg7.view.read (Elt Ideal) f7) ∧ AccI X Q S G (1024 * n) (arg10.view.read (Elt Ideal) f10) ∧ XgI X G (1024 * n) (arg11.view.read (Elt Ideal) f11))⌝
    ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

/-- The operands a point reads, and the scratch buffers before it. -/
def stAt (n : ℕ) (T : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (r6 : sProp 𝕄) : sProp 𝕄 :=
  iprop((arg1.view.loc (c : Thread nD τ) ↦[arg1.view.set]{fullShare.right} T) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ r6
    ∗ St c arg7 arg8 arg9 arg10 arg11 X Q S G n)

/-- What a point leaves in the result's buffer: the result at the last point, what was there before at any other. -/
def OutAt (t : ℕ) (f6 : Buf (Elt Ideal) (arg6.view.loc (c : Thread nD τ))) : sProp 𝕄 :=
  iprop(∃ (f6' : Buf (Elt Ideal) (arg6.view.loc (c : Thread nD τ))), ⌜(t ≠ 13 → f6' = f6) ∧ (t = 13 → ∀ (b : Fin 128) (o : Fin 3584), arg6.view.read (Elt Ideal) f6' (ix2 b o) = result X Q S Z G b o)⌝ ∗ (arg6.view.loc (c : Thread nD τ) ↦[arg6.view.set]{fullShare} f6'))

theorem cond0_iff (n : Fin 14) : Scalar.cmpi .ne (Scalar.extui (Scalar.cmpi .eq (BitVec.ofNat 32 n.val) 0#32) : BitVec 32) 0#32 = 1#1 ↔ n.val = 0 := by
  revert n; decide +kernel

theorem cond2_iff' (n : Fin 14) : Scalar.cmpi .ne (Scalar.extui (Scalar.cmpi .eq (BitVec.ofNat 32 n.val) 13#32) : BitVec 32) 0#32 = 1#1 ↔ n.val = 13 := by
  revert n; decide +kernel

theorem cond2_iff : k0_cond2 i = 1#1 ↔ (i 0).val = 13 := cond2_iff' (i 0)

variable {X Q S Z G}

theorem point (T : Buf (Elt Ideal) (arg1.view.loc (c : Thread nD τ))) (hT : WordsOK c arg1 T)
    (hG : ∀ n (hn : n < 14336), word c arg1 T n hn = (G ⟨n, hn⟩).val) (t : ℕ) (ht : (i 0).val = t) (htl : t < 14)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ)))
    (hx : ∀ (b : Fin 128) (j : Fin 1024), arg2.view.read (Elt Ideal) f2 (ix2 b j) = X (ix2 b (⟨1024 * t + j.val, by omega⟩ : Fin 14336)))
    (hq : ∀ (r : Fin 128) (o : Fin 3584), arg3.view.read (Elt Ideal) f3 (ix2 r o) = Q (ix2 (⟨128 * t + r.val, by omega⟩ : Fin 1792) o))
    (hs : arg4.view.read (Elt Ideal) f4 = S) (hz : arg5.view.read (Elt Ideal) f5 = Z)
    (xr : Fin 128 → Fin 14336 → ℝ) (hX : ∀ b i, X (ix2 b i) = ((xr b i : ℝ) : EReal))
    (sr : Fin 112 → Fin 3584 → ℝ) (hS : ∀ g o, S (ix2 g o) = ((sr g o : ℝ) : EReal)) :
    stAt c arg1 arg2 arg3 arg4 arg5 arg7 arg8 arg9 arg10 arg11 X Q S G t T f2 f3 f4 f5 (arg6.view.loc (c : Thread nD τ) ↦[arg6.view.set]{fullShare} f6)
      ⊢ wp frame (wpE (defs₀ (F := Ideal)) 𝒱₀ (c : Thread nD τ) none) Set.univ (cc0_gptq_int4_linear (F := Ideal) i arg1 harg1 arg2 harg2 arg3 harg3 arg4 harg4 arg5 harg5 arg6 harg6 arg7 harg7 arg8 harg8 arg9 harg9 arg10 harg10 arg11 harg11)
        fun _ => stAt c arg1 arg2 arg3 arg4 arg5 arg7 arg8 arg9 arg10 arg11 X Q S G (t + 1) T f2 f3 f4 f5 (OutAt c arg6 X Q S Z G t f6) := by
  have e0 := cond0_iff (i 0)
  have e2 := cond2_iff i
  unfold stAt St
  iintro ⟨H1, H2, H3, H4, H5, H6, ⟨%f7, %f8, %f9, %f10, %f11, %hst, H7, H8, H9, H10, H11⟩⟩
  by_cases h0 : t = 0
  · have hc0 := e0.mpr (ht.trans h0)
    have hc2 : ¬ k0_cond2 i = 1#1 := fun h => by have := e2.mp h; omega
    have hb := (sep_mono_left (Q := iprop((arg5.view.loc (c : Thread nD τ) ↦[arg5.view.set]{fullShare} f5) ∗ (arg6.view.loc (c : Thread nD τ) ↦[arg6.view.set]{fullShare} f6))) (body_first (F := Ideal) c i arg1 harg1 arg2 harg2 arg3 harg3 arg4 harg4 arg5 harg5 arg6 harg6 arg7 harg7 arg8 harg8 arg9 harg9 arg10 harg10 arg11 harg11 T hT hc0 hc2 f2 f3 f4 f7 f8 f9 f10 f11)).trans (wp_frame_r _ _ _)
    iapply (hb.trans (wp_mono _ _ _ fun _ => ?post0))
    case post0 =>
      unfold after OutAt
      iintro ⟨⟨H1, H2, H3, H4, H7, ⟨%f8', %f9', %f10', %f11', %hp, H8, H9, H10, H11, -⟩⟩, H5, H6⟩
      have hp' := hp
      rw [hs] at hp'
      obtain ⟨h8, h9, ha, hxg⟩ := hp'
      have htb := tblOK arg7.view f7 S
      have r1 := acc_step hG htb ht htl hx hq h8 h9 ha (by rw [h0]; exact accI_zero _ _ _ _)
      have r2 := xg_step hG htb ht htl hx h8 (xg := k0_pay67 (F := Ideal)) (by rw [h0]; exact xgI_zero _ _)
      isplitl [H1]; · iexact H1
      isplitl [H2]; · iexact H2
      isplitl [H3]; · iexact H3
      isplitl [H4]; · iexact H4
      isplitl [H5]; · iexact H5
      isplitl [H6]
      · iexists f6; isplitr
        · ipureintro; exact ⟨fun _ => rfl, fun h => absurd h (by omega)⟩
        iexact H6
      iexists (arg7.view.writes (Elt Ideal) f7 (tblPieces (arg4.view.read (Elt Ideal) f4))), f8', f9', f10', f11'
      isplitr
      · ipureintro; right; rw [hs]; exact ⟨htb, r1, hxg ▸ r2⟩
      isplitl [H7]; · iexact H7
      isplitl [H8]; · iexact H8
      isplitl [H9]; · iexact H9
      isplitl [H10]; · iexact H10
      iexact H11
    isplitr [H5 H6]
    · isplitl [H1]; · iexact H1
      isplitl [H2]; · iexact H2
      isplitl [H3]; · iexact H3
      isplitl [H4]; · iexact H4
      isplitl [H7]; · iexact H7
      isplitl [H8]; · iexact H8
      isplitl [H9]; · iexact H9
      isplitl [H10]; · iexact H10
      iexact H11
    isplitl [H5]; · iexact H5
    iexact H6
  have hc0 := fun h => h0 (ht.symm.trans (e0.mp h))
  obtain ⟨htb, ia, ix⟩ := hst.resolve_left h0
  by_cases h2 : t = 13
  · have hc2 := e2.mpr (ht.trans h2)
    have hb := body_last (F := Ideal) c i arg1 harg1 arg2 harg2 arg3 harg3 arg4 harg4 arg5 harg5 arg6 harg6 arg7 harg7 arg8 harg8 arg9 harg9 arg10 harg10 arg11 harg11 T hT hc0 hc2 f2 f3 f4 f5 f6 f7 f8 f9 f10 f11
    iapply (hb.trans (wp_mono _ _ _ fun _ => ?post1))
    case post1 =>
      unfold after OutAt
      iintro ⟨H1, H2, H3, H4, H5, H7, ⟨%f8', %f9', %f10', %f11', %hp, H8, H9, H10, H11, ⟨%f6', %ho, H6⟩⟩⟩
      have hp' := hp
      obtain ⟨h8, h9, ha, hxg⟩ := hp'
      have r1 := acc_step hG htb ht htl hx hq h8 h9 ha ia
      have r2 := xg_step hG htb ht htl hx h8 ix
      rw [← hxg] at r2
      isplitl [H1]; · iexact H1
      isplitl [H2]; · iexact H2
      isplitl [H3]; · iexact H3
      isplitl [H4]; · iexact H4
      isplitl [H5]; · iexact H5
      isplitl [H6]
      · iexists f6'; isplitr
        · ipureintro
          refine ⟨fun h => absurd h2 h, fun _ b o => ?_⟩
          rw [hs, hz] at ho
          subst h2
          exact final_eq xr hX sr hS r1 r2 ho b o
        iexact H6
      iexists f7, f8', f9', f10', f11'
      isplitr
      · ipureintro; right; exact ⟨htb, r1, r2⟩
      isplitl [H7]; · iexact H7
      isplitl [H8]; · iexact H8
      isplitl [H9]; · iexact H9
      isplitl [H10]; · iexact H10
      iexact H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hc2 : ¬ k0_cond2 i = 1#1 := fun h => h2 (ht.symm.trans (e2.mp h))
    have hb := (sep_mono_left (Q := iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6))) (body_mid (F := Ideal) c i arg1 harg1 arg2 harg2 arg3 harg3 arg4 harg4 arg5 harg5 arg6 harg6 arg7 harg7 arg8 harg8 arg9 harg9 arg10 harg10 arg11 harg11 T hT hc0 hc2 f2 f3 f7 f8 f9 f10 f11)).trans (wp_frame_r _ _ _)
    iapply (hb.trans (wp_mono _ _ _ fun _ => ?post2))
    case post2 =>
      unfold after OutAt
      iintro ⟨⟨H1, H2, H3, H7, ⟨%f8', %f9', %f10', %f11', %hp, H8, H9, H10, H11, -⟩⟩, H4, H5, H6⟩
      have hp' := hp
      obtain ⟨h8, h9, ha, hxg⟩ := hp'
      have r1 := acc_step hG htb ht htl hx hq h8 h9 ha ia
      have r2 := xg_step hG htb ht htl hx h8 ix
      rw [← hxg] at r2
      isplitl [H1]; · iexact H1
      isplitl [H2]; · iexact H2
      isplitl [H3]; · iexact H3
      isplitl [H4]; · iexact H4
      isplitl [H5]; · iexact H5
      isplitl [H6]
      · iexists f6; isplitr
        · ipureintro; exact ⟨fun _ => rfl, fun h => absurd h h2⟩
        iexact H6
      iexists f7, f8', f9', f10', f11'
      isplitr
      · ipureintro; right; exact ⟨htb, r1, r2⟩
      isplitl [H7]; · iexact H7
      isplitl [H8]; · iexact H8
      isplitl [H9]; · iexact H9
      isplitl [H10]; · iexact H10
      iexact H11
    isplitr [H4 H5 H6]
    · isplitl [H1]; · iexact H1
      isplitl [H2]; · iexact H2
      isplitl [H3]; · iexact H3
      isplitl [H7]; · iexact H7
      isplitl [H8]; · iexact H8
      isplitl [H9]; · iexact H9
      isplitl [H10]; · iexact H10
      iexact H11
    isplitl [H4]; · iexact H4
    isplitl [H5]; · iexact H5
    iexact H6

end Body

end Cert.Proof.Val

end
-- ==== Proof.ValLaunch.lean ====
/- What the kernel computes: the launch, from the point's step to the result array. -/
module

public import proofs.«01_k».proof.Proof.ValPoint
public import proofs.«01_k».proof.Proof.LaunchKI

@[expose] public section

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.KernelIdealFrame

local notation "𝕄" => MT nD τ sig Unit (Elt Ideal) ℕ (UU nD τ) ℕ

variable (m : (ℓ : Loc nD τ sig) → Buf (Elt Ideal) ℓ) (ρ : Dev nD → PrngReg)

/-- The operands as the region finds them. -/
abbrev opX (c : Dev nD) : S128x14336.Idx → EReal := V₀ m c (Proc.devRef .tc main_v0)
abbrev opQ (c : Dev nD) : S1792x3584.Idx → BitVec 32 := V₀ m c (Proc.devRef .tc main_arg1)
abbrev opS (c : Dev nD) : S112x3584.Idx → EReal := V₀ m c (Proc.devRef .tc main_arg2)
abbrev opZ (c : Dev nD) : S56x3584.Idx → BitVec 8 := V₀ m c (Proc.devRef .tc main_arg3)

/-- The group of each row. -/
def grp (hG : GroupsOK m) (n : Fin 14336) : Fin 112 := ⟨(m (((0 : Dev nD).tc : Thread nD τ).loc main_arg4) (ix1 n) : BitVec 32).toNat, hG 0 (ix1 n)⟩

/-- The result array. -/
def res1 (hG : GroupsOK m) (c : Dev nD) : S128x3584.Idx → EReal := fun y => result (opX m c) (opQ m c) (opS m c) (opZ m c) (grp m hG) (y 0) (y 1)

theorem res1_at (hG : GroupsOK m) (c : Dev nD) (b : Fin 128) (o : Fin 3584) :
    res1 m hG c (ix2 b o) = result (opX m c) (opQ m c) (opS m c) (opZ m c) (grp m hG) b o := rfl

/-- The array of a window at the region's entry. -/
abbrev arrA (c : Dev nD) (w : Fin 5) : Buf (Elt Ideal) (((cfgM m).win w).arr.view.loc (c.tc : Thread nD τ)) :=
  V₀ m c (Proc.devRef .tc (Pipeline.arrRef (cfgM m).spec w))

/-- A window's block at a point. -/
def blkAt (c : Dev nD) (w : Fin 5) (t : Fin (cfgM m).N) := (((cfgM m).win w).blk t).view.read (Elt Ideal) (arrA m c w)

/-- What the body leaves in each window's staging buffer. -/
def aft (R : Dev nD → S128x3584.Idx → EReal) (c : Dev nD) : (w : Fin 5) → (t : Fin (cfgM m).N) → ((cfgM m).win w).block.Idx → Elt Ideal ((cfgM m).win w).elt
  | ⟨0, _⟩ => fun t => blkAt m c 0 t
  | ⟨1, _⟩ => fun t => blkAt m c 1 t
  | ⟨2, _⟩ => fun t => blkAt m c 2 t
  | ⟨3, _⟩ => fun t => blkAt m c 3 t
  | ⟨4, _⟩ => fun _ => R c

/-- The scratch buffers, the generator register and the table's half before point `n`. -/
def Phi (hG : GroupsOK m) (c : Dev nD) (n : ℕ) : sProp 𝕄 :=
  iprop((St c (Memref.whole cc0_scratch0) (Memref.whole cc0_scratch1) (Memref.whole cc0_scratch2) (Memref.whole cc0_scratch3) (Memref.whole cc0_scratch4)
      (opX m c) (opQ m c) (opS m c) (grp m hG) n ∗ ∃ r, prngReg c r) ∗ Pipeline.ΦT pre0 (tbl m) c)

/-- The proof data: the scratch buffers hold the sums so far. -/
def dat (hG : GroupsOK m) (R : Dev nD → S128x3584.Idx → EReal) (c : Dev nD) : Pipeline.Dat τ (Elt Ideal) Unit ℕ (UU nD τ) ℕ (cfgM m) c where
  A w := arrA m c w
  after := aft m R c
  Φ n := Phi m hG c n.val
  q _ := fullShare
  owed _ := 0

theorem coords_eq (t : Fin (cfgM m).N) : (grid0.coords t 0).val = t.val := by
  have e := Pipeline.Grid.coords_val (G := grid0) t 0 (S := 1) (B := 14) (by decide) (by decide)
  have h : t.val < 14 := t.isLt
  rw [e]; omega

theorem blk0_at (c : Dev nD) (t : Fin (cfgM m).N) (b : Fin 128) (j : Fin 1024) (h : 1024 * t.val + j.val < 14336) :
    (blkAt m c 0 t : S128x1024.Idx → EReal) (ix2 b j) = opX m c (ix2 b (⟨1024 * t.val + j.val, h⟩ : Fin 14336)) := by
  show opX m c ((((cfgM m).win 0).rect t).emb (ix2 b j)) = _
  refine congrArg (opX m c) (funext fun a => Fin.ext ?_)
  refine (Pipeline.Window.rect_emb_val ((cfgM m).win 0) t (ix2 b j) a).trans ?_
  match a with
  | ⟨0, _⟩ =>
    show 0 * 128 + b.val = b.val
    omega
  | ⟨1, _⟩ =>
    show (BitVec.ofNat 32 (grid0.coords t 0).val).toNat * 1024 + j.val = 1024 * t.val + j.val
    rw [coords_eq, BitVec.toNat_ofNat, Nat.mod_eq_of_lt (by omega)]
    omega

theorem blk1_at (c : Dev nD) (t : Fin (cfgM m).N) (r : Fin 128) (o : Fin 3584) (h : 128 * t.val + r.val < 1792) :
    (blkAt m c 1 t : S128x3584.Idx → BitVec 32) (ix2 r o) = opQ m c (ix2 (⟨128 * t.val + r.val, h⟩ : Fin 1792) o) := by
  show opQ m c ((((cfgM m).win 1).rect t).emb (ix2 r o)) = _
  refine congrArg (opQ m c) (funext fun a => Fin.ext ?_)
  refine (Pipeline.Window.rect_emb_val ((cfgM m).win 1) t (ix2 r o) a).trans ?_
  match a with
  | ⟨0, _⟩ =>
    show (BitVec.ofNat 32 (grid0.coords t 0).val).toNat * 128 + r.val = 128 * t.val + r.val
    rw [coords_eq, BitVec.toNat_ofNat, Nat.mod_eq_of_lt (by omega)]
    omega
  | ⟨1, _⟩ =>
    show 0 * 3584 + o.val = o.val
    omega

theorem blk2_eq (c : Dev nD) (t : Fin (cfgM m).N) : (blkAt m c 2 t : S112x3584.Idx → EReal) = opS m c := by
  funext y
  show opS m c ((((cfgM m).win 2).rect t).emb y) = _
  refine congrArg (opS m c) (funext fun a => Fin.ext ?_)
  refine (Pipeline.Window.rect_emb_val ((cfgM m).win 2) t y a).trans ?_
  match a with
  | ⟨0, _⟩ => show 0 * 112 + (y 0).val = (y 0).val; omega
  | ⟨1, _⟩ => show 0 * 3584 + (y 1).val = (y 1).val; omega

theorem blk3_eq (c : Dev nD) (t : Fin (cfgM m).N) : (blkAt m c 3 t : S56x3584.Idx → BitVec 8) = opZ m c := by
  funext y
  show opZ m c ((((cfgM m).win 3).rect t).emb y) = _
  refine congrArg (opZ m c) (funext fun a => Fin.ext ?_)
  refine (Pipeline.Window.rect_emb_val ((cfgM m).win 3) t y a).trans ?_
  match a with
  | ⟨0, _⟩ => show 0 * 56 + (y 0).val = (y 0).val; omega
  | ⟨1, _⟩ => show 0 * 3584 + (y 1).val = (y 1).val; omega

theorem before0 (hG : GroupsOK m) (R : Dev nD → S128x3584.Idx → EReal) (c : Dev nD) (t : Fin (cfgM m).N) (d) : (dat m hG R c).before 0 t d = blkAt m c 0 t :=
  (dat m hG R c).before_in_eq_fetched 0 rfl (fun _ => rfl) (fun _ _ _ => rfl) (fun _ => rfl) t d
theorem before1 (hG : GroupsOK m) (R : Dev nD → S128x3584.Idx → EReal) (c : Dev nD) (t : Fin (cfgM m).N) (d) : (dat m hG R c).before 1 t d = blkAt m c 1 t :=
  (dat m hG R c).before_in_eq_fetched 1 rfl (fun _ => rfl) (fun _ _ _ => rfl) (fun _ => rfl) t d
theorem before2 (hG : GroupsOK m) (R : Dev nD → S128x3584.Idx → EReal) (c : Dev nD) (t : Fin (cfgM m).N) (d) : (dat m hG R c).before 2 t d = blkAt m c 2 t :=
  (dat m hG R c).before_in_eq_fetched 2 rfl (fun _ => rfl) (fun _ _ _ => rfl) (fun _ => rfl) t d
theorem before3 (hG : GroupsOK m) (R : Dev nD → S128x3584.Idx → EReal) (c : Dev nD) (t : Fin (cfgM m).N) (d) : (dat m hG R c).before 3 t d = blkAt m c 3 t :=
  (dat m hG R c).before_in_eq_fetched 3 rfl (fun _ => rfl) (fun _ _ _ => rfl) (fun _ => rfl) t d

theorem flush4 (t : Fin (cfgM m).N) : ((cfgM m).win 4).flush t = true ↔ t.val = 13 := by
  have h : t.val < 14 := t.isLt
  unfold Pipeline.Window.flush
  rw [show ((cfgM m).win 4).isOut = true from rfl, Bool.true_and, Bool.or_eq_true, decide_eq_true_eq, decide_eq_true_eq]
  constructor
  · rintro (h1 | ⟨h1, h2⟩)
    · have : t.val + 1 = 14 := h1
      omega
    · exact absurd rfl h2
  · intro h1; left; show t.val + 1 = 14; omega

theorem idle4 (t : Fin (cfgM m).N) : (cfgM m).idle 4 ((cfgM m).grid.coords t) = true ↔ t.val ≠ 13 := by
  have e := cond2_iff (grid0.coords t)
  rw [coords_eq] at e
  show (!(k0_cond2 (grid0.coords t) == 1#1)) = true ↔ _
  rw [ne_eq, ← e]
  simp

/-- The result's buffer at a point that leaves it alone. -/
theorem give_idle (hG : GroupsOK m) (R : Dev nD → S128x3584.Idx → EReal) (c : Dev nD) (t : Fin (cfgM m).N) (ht : t.val ≠ 13) :
    (iprop(∃ d, owns c (((cfgM m).win 4).stage ((cfgM m).slots t 4)) fullShare ((dat m hG R c).before 4 t d)) : sProp 𝕄)
    ⊢ (match (cfgM m).idle 4 ((cfgM m).grid.coords t) with
        | true =>
          match ((cfgM m).win 4).flush t with
          | false => iprop(∃ d, owns c (((cfgM m).win 4).stage ((cfgM m).slots t 4)) fullShare ((dat m hG R c).before 4 t d))
          | true => owns c (((cfgM m).win 4).stage ((cfgM m).slots t 4)) fullShare ((dat m hG R c).after 4 t)
        | false => owns c (((cfgM m).win 4).stage ((cfgM m).slots t 4)) fullShare ((dat m hG R c).after 4 t)) := by
  have hf : ((cfgM m).win 4).flush t = false := by
    rw [← Bool.not_eq_true]; exact fun h => ht ((flush4 m t).mp h)
  rw [(idle4 m t).mpr ht, hf]

/-- The result's buffer after the last point. -/
theorem give_last (hG : GroupsOK m) (R : Dev nD → S128x3584.Idx → EReal) (c : Dev nD) (t : Fin (cfgM m).N) (ht : t.val = 13) :
    (owns c (((cfgM m).win 4).stage ((cfgM m).slots t 4)) fullShare ((dat m hG R c).after 4 t) : sProp 𝕄)
    ⊢ (match (cfgM m).idle 4 ((cfgM m).grid.coords t) with
        | true =>
          match ((cfgM m).win 4).flush t with
          | false => iprop(∃ d, owns c (((cfgM m).win 4).stage ((cfgM m).slots t 4)) fullShare ((dat m hG R c).before 4 t d))
          | true => owns c (((cfgM m).win 4).stage ((cfgM m).slots t 4)) fullShare ((dat m hG R c).after 4 t)
        | false => owns c (((cfgM m).win 4).stage ((cfgM m).slots t 4)) fullShare ((dat m hG R c).after 4 t)) := by
  have hi : (cfgM m).idle 4 ((cfgM m).grid.coords t) = false := by
    rw [← Bool.not_eq_true]; exact fun h => (idle4 m t).mp h ht
  rw [hi]

theorem word_eq (hG : GroupsOK m) (c : Dev nD) (n : ℕ) (hn : n < 14336) :
    word (F := Ideal) c (Memref.whole main_arg4) (tbl m 0) n hn = (grp m hG ⟨n, hn⟩).val := by
  unfold word grp
  have e : (tbl m 0 : S14336.Idx → BitVec 32) = m (((0 : Dev nD).tc : Thread nD τ).loc main_arg4) := V_arg4 m 0
  show (tbl m 0 (ix1 (⟨n, hn⟩ : Fin 14336)) : BitVec 32).toNat = _
  rw [e]

/-- The body keeps the invariant and leaves the result at the last point. -/
theorem hbodyV (hG : GroupsOK m) (R : Dev nD → S128x3584.Idx → EReal)
    (hR : ∀ c (b : Fin 128) (o : Fin 3584), R c (ix2 b o) = result (opX m c) (opQ m c) (opS m c) (opZ m c) (grp m hG) b o)
    (xr : Dev nD → Fin 128 → Fin 14336 → ℝ) (hX : ∀ c b i, opX m c (ix2 b i) = ((xr c b i : ℝ) : EReal))
    (sr : Dev nD → Fin 112 → Fin 3584 → ℝ) (hS : ∀ c g o, opS m c (ix2 g o) = ((sr c g o : ℝ) : EReal)) (c : Dev nD) :
    Pipeline.BodyObligation (dat m hG R c) (defs₀ (F := Ideal)) 𝒱₀ () Set.univ := by
  intro t
  rw [Gen.bigSep_W0, Gen.bigSep_W0, defs₀_row]
  show iprop((Phi m hG c t.val) ∗ (dat m hG R c).owesAt () t.castSucc
      ∗ (∃ d, owns c (((cfgM m).win 0).stage ((cfgM m).slots t 0)) fullShare ((dat m hG R c).before 0 t d))
      ∗ (∃ d, owns c (((cfgM m).win 1).stage ((cfgM m).slots t 1)) fullShare ((dat m hG R c).before 1 t d))
      ∗ (∃ d, owns c (((cfgM m).win 2).stage ((cfgM m).slots t 2)) fullShare ((dat m hG R c).before 2 t d))
      ∗ (∃ d, owns c (((cfgM m).win 3).stage ((cfgM m).slots t 3)) fullShare ((dat m hG R c).before 3 t d))
      ∗ (∃ d, owns c (((cfgM m).win 4).stage ((cfgM m).slots t 4)) fullShare ((dat m hG R c).before 4 t d))) ⊢ wp frame _ Set.univ _
    fun _ => iprop((Phi m hG c (t.val + 1)) ∗ (dat m hG R c).owesAt () t.castSucc
      ∗ owns c (((cfgM m).win 0).stage ((cfgM m).slots t 0)) fullShare (blkAt m c 0 t)
      ∗ owns c (((cfgM m).win 1).stage ((cfgM m).slots t 1)) fullShare (blkAt m c 1 t)
      ∗ owns c (((cfgM m).win 2).stage ((cfgM m).slots t 2)) fullShare (blkAt m c 2 t)
      ∗ owns c (((cfgM m).win 3).stage ((cfgM m).slots t 3)) fullShare (blkAt m c 3 t)
      ∗ (match (cfgM m).idle 4 ((cfgM m).grid.coords t) with
        | true =>
          match ((cfgM m).win 4).flush t with
          | false => iprop(∃ d, owns c (((cfgM m).win 4).stage ((cfgM m).slots t 4)) fullShare ((dat m hG R c).before 4 t d))
          | true => owns c (((cfgM m).win 4).stage ((cfgM m).slots t 4)) fullShare ((dat m hG R c).after 4 t)
        | false => owns c (((cfgM m).win 4).stage ((cfgM m).slots t 4)) fullShare ((dat m hG R c).after 4 t)))
  simp only [before0, before1, before2, before3]
  unfold Phi
  rw [PhiT_eq]
  have htl : t.val < 14 := t.isLt
  iintro ⟨⟨⟨Hst, Hr⟩, H1⟩, Ho, ⟨%d0, H2⟩, ⟨%d1, H3⟩, ⟨%d2, H4⟩, ⟨%d3, H5⟩, ⟨%d4, H6⟩⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  have hc := point (c := c) (i := grid0.coords t) (Memref.whole main_arg4) (Memref.isWhole_whole _)
        (spec0_0.stage ((cfgM m).slots t 0)) (hstage0_0 (((cfgM m).slots t 0).cast nbuf0_0))
        (spec0_1.stage ((cfgM m).slots t 1)) (hstage0_1 (((cfgM m).slots t 1).cast nbuf0_1))
        (spec0_2.stage ((cfgM m).slots t 2)) (hstage0_2 (((cfgM m).slots t 2).cast nbuf0_2))
        (spec0_3.stage ((cfgM m).slots t 3)) (hstage0_3 (((cfgM m).slots t 3).cast nbuf0_3))
        (spec0_4.stage ((cfgM m).slots t 4)) (hstage0_4 (((cfgM m).slots t 4).cast nbuf0_4))
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _)
        (X := opX m c) (Q := opQ m c) (S := opS m c) (Z := opZ m c) (G := grp m hG) (tbl m 0) (wordsOK m hG c)
        (fun n hn => word_eq m hG c n hn) t.val (coords_eq m t) htl f2 f3 f4 f5 f6
        (fun b j => (congrFun e2 (ix2 b j)).trans (blk0_at m c t b j (by omega)))
        (fun r o => (congrFun e3 (ix2 r o)).trans (blk1_at m c t r o (by omega)))
        (e4.trans (blk2_eq m c t)) (e5.trans (blk3_eq m c t)) (xr c) (hX c) (sr c) (hS c)
  iapply (((sep_mono_left (Q := iprop((∃ r, prngReg c r) ∗ (dat m hG R c).owesAt () t.castSucc)) hc).trans (wp_frame_r _ _ _)).trans
    (wp_mono _ _ _ fun _ => ?post))
  case post =>
    unfold stAt OutAt
    iintro ⟨⟨H1, H2, H3, H4, H5, ⟨%f6', %h6, H6⟩, Hst⟩, Hr, Ho⟩
    isplitl [H1 Hst Hr]
    · isplitr [H1]
      · isplitl [Hst]; · iexact Hst
        iexact Hr
      iexact H1
    isplitl [Ho]; · iexact Ho
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    by_cases h13 : t.val = 13
    · iapply (give_last m hG R c t h13)
      unfold owns
      iexists f6'; isplitr
      · ipureintro
        refine funext fun (y : S128x3584.Idx) => ?_
        obtain ⟨b, o, rfl⟩ : ∃ (b : Fin 128) (o : Fin 3584), y = ix2 b o := ⟨y 0, y 1, by funext a; match a with | ⟨0, _⟩ => rfl | ⟨1, _⟩ => rfl⟩
        exact (h6.2 h13 b o).trans (hR c b o).symm
      iexact H6
    · iapply (give_idle m hG R c t h13)
      unfold owns
      iexists d4, f6'; isplitr
      · ipureintro; rw [h6.1 h13]; exact e6
      iexact H6
  unfold stAt
  isplitr [Hr Ho]
  · isplitl [H1]; · iexact H1
    isplitl [H2]; · iexact H2
    isplitl [H3]; · iexact H3
    isplitl [H4]; · iexact H4
    isplitl [H5]; · iexact H5
    isplitl [H6]; · iexact H6
    iexact Hst
  isplitl [Hr]; · iexact Hr
  iexact Ho

/-- The one write-back, at the last point, writes the result. -/
theorem flushed4 (hG : GroupsOK m) (R : Dev nD → S128x3584.Idx → EReal) (c : Dev nD) (t : Fin (cfgM m).N) :
    (dat m hG R c).flushed 4 t = (((cfgM m).win 4).blk t).view.read (Elt Ideal) (R c) := by
  refine funext fun (y : S128x3584.Idx) => ?_
  show R c y = R c ((((cfgM m).win 4).rect t).emb y)
  refine congrArg (R c) (funext fun a => Fin.ext ?_)
  refine Eq.trans ?_ (Pipeline.Window.rect_emb_val ((cfgM m).win 4) t y a).symm
  match a with
  | ⟨0, _⟩ => show (y 0).val = 0 * 128 + (y 0).val; omega
  | ⟨1, _⟩ => show (y 1).val = 0 * 3584 + (y 1).val; omega

theorem final4 (hG : GroupsOK m) (R : Dev nD → S128x3584.Idx → EReal) (c : Dev nD) : (dat m hG R c).arrAt 4 (cfgM m).N = R c :=
  (dat m hG R c).arrAt_eq_of_cover 4 (R c) (fun t _ => flushed4 m hG R c t) fun (i : S128x3584.Idx) =>
    ⟨(⟨13, by decide⟩ : Fin grid0.N), (flush4 m _).mpr rfl, by
      have hs := View.set_slice_whole main_v1 (((cfgM m).win 4).rect (⟨13, by decide⟩ : Fin grid0.N))
      refine Eq.mpr (congrArg (fun s : Finset main_v1.ty.Idx => (i : main_v1.ty.Idx) ∈ s) hs) ?_
      refine (Rect.mem_set_unit (s := S128x3584)).mpr ?_
      intro a
      have h0 : (i 0 : Nat) < 128 := (i 0).isLt
      have h1 : (i 1 : Nat) < 3584 := (i 1).isLt
      match a with
      | ⟨0, _⟩ => show 0 * 128 ≤ (i 0 : Nat) ∧ (i 0 : Nat) < 0 * 128 + 128; omega
      | ⟨1, _⟩ => show 0 * 3584 ≤ (i 1 : Nat) ∧ (i 1 : Nat) < 0 * 3584 + 3584; omega⟩

theorem shareV (hG : GroupsOK m) (R : Dev nD → S128x3584.Idx → EReal) (c : Dev nD) (w) : (dat m hG R c).share w = fullShare := by
  unfold Pipeline.Dat.share; split <;> rfl

theorem hinV (hG : GroupsOK m) (c : Dev nD) : (iprop(Pipeline.ΦA (cfgM m).spec c ∗ Pipeline.ΦT pre0 (tbl m) c) : sProp 𝕄) ⊢ Phi m hG c 0 := by
  rw [PhiA_eq]
  unfold Phi St
  iintro ⟨⟨⟨⟨%f7, H7⟩, ⟨%f8, H8⟩, ⟨%f9, H9⟩, ⟨%f10, H10⟩, ⟨%f11, H11⟩⟩, Hr⟩, HT⟩
  isplitr [HT]
  · isplitr [Hr]
    · iexists f7, f8, f9, f10, f11
      isplitr; · ipureintro; left; rfl
      isplitl [H7]; · iexact H7
      isplitl [H8]; · iexact H8
      isplitl [H9]; · iexact H9
      isplitl [H10]; · iexact H10
      iexact H11
    iexact Hr
  iexact HT

theorem houtV (hG : GroupsOK m) (c : Dev nD) (n : ℕ) : Phi m hG c n ⊢ (Pipeline.ΦA (cfgM m).spec c : sProp 𝕄) := by
  rw [PhiA_eq]
  unfold Phi St
  iintro ⟨⟨⟨%f7, %f8, %f9, %f10, %f11, -, H7, H8, H9, H10, H11⟩, Hr⟩, -⟩
  isplitr [Hr]
  · isplitl [H7]; · iexists f7; iexact H7
    isplitl [H8]; · iexists f8; iexact H8
    isplitl [H9]; · iexists f9; iexact H9
    isplitl [H10]; · iexists f10; iexact H10
    iexists f11; iexact H11
  iexact Hr

set_option backward.isDefEq.respectTransparency.types false in
/-- The program runs, the arrays ending as the proof data say. -/
theorem runV (hG : GroupsOK m) (R : Dev nD → S128x3584.Idx → EReal)
    (hR : ∀ c (b : Fin 128) (o : Fin 3584), R c (ix2 b o) = result (opX m c) (opQ m c) (opS m c) (opZ m c) (grp m hG) b o)
    (xr : Dev nD → Fin 128 → Fin 14336 → ℝ) (hX : ∀ c b i, opX m c (ix2 b i) = ((xr c b i : ℝ) : EReal))
    (sr : Dev nD → Fin 112 → Fin 3584 → ℝ) (hS : ∀ c g o, opS m c (ix2 g o) = ((sr c g o : ℝ) : EReal)) :
    θ_run (defs (F := Ideal)) (onTc (τ := τ) (main (F := Ideal))) ⟨m, fun _ => 0, ρ⟩ (fun r =>
      Pipeline.FramePost (Pipeline.pin (pcfgs (F := Ideal)) (adm m)) (fun _ => dat m hG R) 0
        (Pipeline.afterTail (pcfgs (F := Ideal)) (adm m) (fun _ => dat m hG R) 0 (V₀ m) [hostOps1 (F := Ideal)]) r ∧ r.2.sem = fun _ => 0) :=
  Pipeline.θ_run_frameP_around_track (pcfgs (F := Ideal)) (adm m) (fun _ => dat m hG R) 0 Gen.launch0 (defs₀ (F := Ideal)) 𝒱₀ m ρ (main (F := Ideal))
    (fun c => (hbodyV m hG R hR xr hX sr hS c).loose) (shareV m hG R) (fun _ _ => rfl) (V₀ m) [hostOps1 (F := Ideal)]
    sfx_sub sfx_fresh sfx_keeps
    (Pipeline.hmainP_around (pcfgs (F := Ideal)) 0 (defs₀ (F := Ideal)) 𝒱₀ m main [hostOps0 (F := Ideal)] [hostOps1 (F := Ideal)]
      (by simp only [List.Forall]; exact hostOps0_sub) (by simp only [List.Forall]; exact fresh0) main_chain)
    (fun _ _ => rfl)
    (fun c k => by obtain rfl : c = 0 := Subsingleton.elim _ _; rfl)
    (hinV m hG) (fun c => houtV m hG c _)
    (Q' := fun r => Pipeline.FramePost (Pipeline.pin (pcfgs (F := Ideal)) (adm m)) (fun _ => dat m hG R) 0
        (Pipeline.afterTail (pcfgs (F := Ideal)) (adm m) (fun _ => dat m hG R) 0 (V₀ m) [hostOps1 (F := Ideal)]) r ∧ r.2.sem = fun _ => 0)
    (hQ' := fun _ h => h)

end Cert.Proof.Val

end
-- ==== Proof.ValRef.lean ====
/- What the reference computes, read at an element over the extended reals. -/
module

public import proofs.«01_k».proof.Proof.Gen.ReferenceIdeal
public import proofs.«01_k».proof.Proof.Gen.ReferenceIdeal.Run
public import proofs.«01_k».proof.Proof.ValStep
public import Idealize.ShloMosaic.Lib.Pointwise
public import Idealize.ShloMosaic.Lib.StableHlo.Predicate

@[expose] public section

noncomputable section

namespace Cert.Proof.ValRef

open Cert.ReferenceIdeal Cert.ReferenceIdeal.Gen
open Idealize.ShloMosaic Idealize.ShloMosaic.TcCoe

abbrev gath := gather_S112x3584_S1792x1_S1792x3584_1_0_n_n_0_1_13584
abbrev dotd := dot_S128x1x1792_S1792x3584_S128x1x3584_2_0_01_1_n_n

/-- A gather of whole rows: the row the start index names. -/
theorem gather_row {α : Type} (x : S112x3584.Idx → α) (idx : IVec S1792x1 32) (r : Fin 1792) (o : Fin 3584) (n : Fin 112)
    (hn : (idx (ix2 r 0) : BitVec 32).toInt = (n.val : ℤ)) :
    Host.gather gath x idx (ix2 r o) = x (ix2 n o) := by
  unfold Host.gather
  refine congrArg x (funext fun a => Fin.ext ?_)
  match a with
  | ⟨0, _⟩ =>
    have hb : (0 : Fin 2) ∉ gath.operandBatchingDims := by decide
    have hk : (0 : Fin 2) ∉ gath.sKept := by rw [GatherDims.mem_sKept]; decide
    have hm : (0 : Fin 2) ∈ gath.startIndexMap := by decide
    show (gath.operandIdx (ix2 r o) idx 0 : Nat) = n.val
    simp only [GatherDims.operandIdx, GatherDims.batchCoord_eq_zero _ _ _ hb, GatherDims.offCoord_eq_zero _ _ _ hk,
      Nat.add_zero, GatherDims.start, dif_pos hm]
    have e : ∀ y : S1792x1.Idx, y = ix2 r 0 → min (idx y : BitVec 32).toInt.toNat (112 - 1) = n.val := by
      rintro y rfl
      rw [hn]; omega
    refine e _ ?_
    funext b
    match b with
    | ⟨0, _⟩ => rfl
    | ⟨1, _⟩ => rfl
  | ⟨1, _⟩ =>
    show (gath.operandIdx (ix2 r o) idx 1 : Nat) = o.val
    have hb : (1 : Fin 2) ∉ gath.operandBatchingDims := by decide
    have hm : (1 : Fin 2) ∉ gath.startIndexMap := by decide
    simp only [GatherDims.operandIdx, GatherDims.batchCoord_eq_zero _ _ _ hb, GatherDims.start, dif_neg hm, Nat.zero_add, Nat.add_zero]
    rfl

/-- The product the reference takes for one place of the words. -/
theorem dot_at (L : FVec Ideal S128x1x1792 .bf16) (R : FVec Ideal S1792x3584 .bf16) (b : Fin 128) (o : Fin 3584) :
    (Host.dotGeneral dotd none L R : FVec Ideal S128x1x3584 .f32) (ix3 b 0 o) = ∑ r : Fin 1792, L (ix3 b 0 r) * R (ix2 r o) := by
  pointwise

theorem slice_x (x : S128x1x14336.Idx → EReal) (k : ℕ) (hk : k < 8) (h : S128x1x14336.SlicesBy ![0, 0, k] ![1, 1, 8] S128x1x1792) (b : Fin 128) (r : Fin 1792) :
    Host.slice S128x1x1792 ![0, 0, k] ![1, 1, 8] x h (ix3 b 0 r) = x (ix3 b 0 (⟨8 * r.val + k, by omega⟩ : Fin 14336)) := by
  unfold Host.slice
  refine congrArg x (funext fun a => Fin.ext ?_)
  match a with
  | ⟨0, _⟩ => show 0 + 1 * b.val = b.val; omega
  | ⟨1, _⟩ => rfl
  | ⟨2, _⟩ => show k + 8 * r.val = 8 * r.val + k; omega

theorem slice_g (g : S14336.Idx → BitVec 32) (k : ℕ) (hk : k < 8) (h : S14336.SlicesBy ![k] ![8] S1792) (r : Fin 1792) :
    Host.slice S1792 ![k] ![8] g h (ix1 r) = g (ix1 (⟨8 * r.val + k, by omega⟩ : Fin 14336)) := by
  unfold Host.slice
  refine congrArg g (funext fun a => Fin.ext ?_)
  match a with
  | ⟨0, _⟩ => show k + 8 * r.val = 8 * r.val + k; omega

/-- The start indices: a group's number, which is never negative. -/
theorem idx_at (g : S1792.Idx → BitVec 32) (r : Fin 1792) (n : Fin 112) (hg : (g (ix1 r)).toNat = n.val) :
    (broadcastInDim S1792x1 ![0] bcast_S1792_S1792x1_0 (select (cmpi .slt g (broadcastInDim S1792 ![] bcast_S_S1792 (constantI S_ 32 0#32)))
      (addi g (broadcastInDim S1792 ![] bcast_S_S1792 (constantI S_ 32 112#32))) g) (ix2 r 0) : BitVec 32).toInt = (n.val : ℤ) := by
  have e : broadcastInDim S1792x1 ![0] bcast_S1792_S1792x1_0 (select (cmpi .slt g (broadcastInDim S1792 ![] bcast_S_S1792 (constantI S_ 32 0#32)))
      (addi g (broadcastInDim S1792 ![] bcast_S_S1792 (constantI S_ 32 112#32))) g) (ix2 r 0)
      = Scalar.select (IntOp.cmpi .slt (g (ix1 r)) 0#32) (IntOp.addi (g (ix1 r)) 112#32) (g (ix1 r)) := by
    pointwise
  have hn := n.isLt
  have hs : IntOp.cmpi .slt (g (ix1 r)) 0#32 = 0#1 := by
    show BitVec.ofBool (BitVec.slt (g (ix1 r)) 0#32) = 0#1
    rw [show BitVec.slt (g (ix1 r)) 0#32 = false from by
      simp only [BitVec.slt, decide_eq_false_iff_not, BitVec.toInt]
      simp
      omega]
    rfl
  rw [e, hs, show Scalar.select 0#1 (IntOp.addi (g (ix1 r)) 112#32) (g (ix1 r)) = g (ix1 r) from rfl]
  rw [BitVec.toInt, hg, if_pos (by omega)]

/-- One place's term, as the reference prints it. -/
def refTerm (k : ℕ) (hx : S128x1x14336.SlicesBy ![0, 0, k] ![1, 1, 8] S128x1x1792) (x : S128x1x14336.Idx → EReal) (q : S1792x3584.Idx → BitVec 32) (sh : BitVec 32)
    (s z : S112x3584.Idx → EReal) (g : S1792.Idx → BitVec 32) : FVec Ideal S128x1x3584 .f32 :=
  Host.dotGeneral (F := Ideal) (φ₁ := .bf16) (φ₂ := .f32) dotd none (Host.slice S128x1x1792 ![0, 0, k] ![1, 1, 8] x hx)
    (mulf (F := Ideal) (φ := .bf16) (subf (F := Ideal) (φ := .bf16) (sitofp (F := Ideal) .bf16 (andi (Host.shrsi q (broadcastInDim S1792x3584 ![] bcast_S_S1792x3584 (constantI S_ 32 sh))) (broadcastInDim S1792x3584 ![] bcast_S_S1792x3584 (constantI S_ 32 15#32))))
      (Host.gather gath z (broadcastInDim S1792x1 ![0] bcast_S1792_S1792x1_0 (select (cmpi .slt g (broadcastInDim S1792 ![] bcast_S_S1792 (constantI S_ 32 0#32))) (addi g (broadcastInDim S1792 ![] bcast_S_S1792 (constantI S_ 32 112#32))) g))))
      (Host.gather gath s (broadcastInDim S1792x1 ![0] bcast_S1792_S1792x1_0 (select (cmpi .slt g (broadcastInDim S1792 ![] bcast_S_S1792 (constantI S_ 32 0#32))) (addi g (broadcastInDim S1792 ![] bcast_S_S1792 (constantI S_ 32 112#32))) g))))

theorem refTerm_at (k : ℕ) (hk : k < 8) (hx : S128x1x14336.SlicesBy ![0, 0, k] ![1, 1, 8] S128x1x1792) (x : S128x1x14336.Idx → EReal) (q : S1792x3584.Idx → BitVec 32) (sh : BitVec 32)
    (hsh : sh = BitVec.ofNat 32 (4 * k)) (s z : S112x3584.Idx → EReal) (g : S1792.Idx → BitVec 32) (G : Fin 14336 → Fin 112)
    (hg : ∀ r : Fin 1792, (g (ix1 r)).toNat = (G ⟨8 * r.val + k, by omega⟩).val) (b : Fin 128) (o : Fin 3584) :
    refTerm k hx x q sh s z g (ix3 b 0 o)
      = ∑ r : Fin 1792, x (ix3 b 0 (⟨8 * r.val + k, by omega⟩ : Fin 14336))
          * ((Val.codeU (q (ix2 r o)) k - z (ix2 (G ⟨8 * r.val + k, by omega⟩) o)) * s (ix2 (G ⟨8 * r.val + k, by omega⟩) o)) := by
  unfold refTerm
  refine (dot_at _ _ b o).trans (Finset.sum_congr rfl fun r _ => ?_)
  rw [slice_x x k hk hx b r]
  refine congrArg (x (ix3 b 0 (⟨8 * r.val + k, by omega⟩ : Fin 14336)) * ·) ?_
  have e1 := gather_row z _ r o _ (idx_at g r _ (hg r))
  have e2 := gather_row s _ r o _ (idx_at g r _ (hg r))
  refine congrArg₂ (· * ·) (congrArg₂ (· - ·) ?_ e1) e2
  have e3 : (andi (Host.shrsi q (broadcastInDim S1792x3584 ![] bcast_S_S1792x3584 (constantI S_ 32 sh))) (broadcastInDim S1792x3584 ![] bcast_S_S1792x3584 (constantI S_ 32 15#32))) (ix2 r o)
      = BitVec.sshiftRight (q (ix2 r o)) (4 * k) &&& 15#32 := by
    subst hsh
    interval_cases k <;> rfl
  show ((((andi (Host.shrsi q (broadcastInDim S1792x3584 ![] bcast_S_S1792x3584 (constantI S_ 32 sh))) (broadcastInDim S1792x3584 ![] bcast_S_S1792x3584 (constantI S_ 32 15#32))) (ix2 r o)).toInt : ℝ) : EReal) = _
  rw [e3]
  rfl

/-- A sum over the rows, eight at a time. -/
theorem sum_by_eight (f : Fin 14336 → EReal) :
    ∑ i, f i = ∑ k : Fin 8, ∑ r : Fin 1792, f ⟨8 * r.val + k.val, by omega⟩ := by
  rw [Finset.sum_comm, ← Fintype.sum_prod_type']
  refine (Equiv.sum_comp ((finProdFinEquiv (m := 1792) (n := 8)).trans (finCongr (by norm_num))) f).symm.trans ?_
  refine Finset.sum_congr rfl fun p _ => congrArg f (Fin.ext ?_)
  show p.2.val + 8 * p.1.val = 8 * p.1.val + p.2.val
  omega

section Whole

variable (V0 : Valuation τ sig (Elt Ideal)) (G : Fin 14336 → Fin 112)

abbrev inX : S128x1x14336.Idx → EReal := V0 (Proc.devRef .tc main_arg0)
abbrev inQ : S1792x3584.Idx → BitVec 32 := V0 (Proc.devRef .tc main_arg1)
abbrev inS : S112x3584.Idx → EReal := V0 (Proc.devRef .tc main_arg2)
abbrev inZ : S56x3584.Idx → BitVec 8 := V0 (Proc.devRef .tc main_arg3)
abbrev inG : S14336.Idx → BitVec 32 := V0 (Proc.devRef .tc main_arg4)

theorem shr4 (v : BitVec 8) : IntOp.shrsi ArithUnit.host (BitVec.setWidth 32 v) 4#32 = BitVec.setWidth 32 v >>> 4 := by
  revert v; decide

theorem zero_at (g : Fin 112) (o : Fin 3584) : (Value.res_main_v6 V0 : S112x3584.Idx → EReal) (ix2 g o) = Val.zeroU (inZ V0) g o := by
  have hn := g.isLt
  unfold Value.res_main_v6 Value.res_main_v0 Val.zeroU
  by_cases h : g.val < 56
  · obtain ⟨g, hg⟩ := g
    rw [dif_pos h]
    pointwise
    rw [dif_pos (show g < 56 from h)]
    rfl
  · rw [dif_neg h]
    pointwise
    rw [dif_neg h, shr4]
    rfl

/-- One product of the whole sum. -/
def prod (b : Fin 128) (o : Fin 3584) (i : Fin 14336) : EReal :=
  inX V0 (ix3 b 0 i) * ((Val.codeU (inQ V0 (ix2 (⟨i.val / 8, by omega⟩ : Fin 1792) o)) (i.val % 8) - Val.zeroU (inZ V0) (G i) o) * inS V0 (ix2 (G i) o))

theorem ref_at (hG : ∀ n : Fin 14336, (inG V0 (ix1 n)).toNat = (G n).val) (b : Fin 128) (o : Fin 3584) :
    (truncf .bf16 (Value.res_main_v205 V0) bitsLt_bf16_f32 : S128x1x3584.Idx → EReal) (ix3 b 0 o) = ∑ i : Fin 14336, prod V0 G b o i := by
  rw [sum_by_eight, Fin.sum_univ_eight]
  have t : ∀ (k : ℕ) (hk : k < 8) (hx : S128x1x14336.SlicesBy ![0, 0, k] ![1, 1, 8] S128x1x1792) (hgs : S14336.SlicesBy ![k] ![8] S1792) (sh : BitVec 32) (hsh : sh = BitVec.ofNat 32 (4 * k)),
      refTerm k hx (inX V0) (inQ V0) sh (inS V0) (Value.res_main_v6 V0) (Host.slice S1792 ![k] ![8] (inG V0) hgs) (ix3 b 0 o)
        = ∑ r : Fin 1792, prod V0 G b o ⟨8 * r.val + k, by omega⟩ := by
    intro k hk hx hgs sh hsh
    refine (refTerm_at k hk hx _ _ sh hsh _ _ _ G (fun r => by rw [slice_g _ k hk hgs r]; exact hG _) b o).trans (Finset.sum_congr rfl fun r _ => ?_)
    have e1 : (8 * r.val + k) / 8 = r.val := by omega
    have e2 : (8 * r.val + k) % 8 = k := by omega
    unfold prod
    rw [zero_at]
    simp only [e1, e2]
  unfold Value.res_main_v205 Value.res_main_v105
  exact congrArg₂ (· + ·) (congrArg₂ (· + ·) (congrArg₂ (· + ·) (congrArg₂ (· + ·) (congrArg₂ (· + ·) (congrArg₂ (· + ·) (congrArg₂ (· + ·) ((t 0 (by decide) slicesBy_S128x1x14336_S128x1x1792_0s1_0s1_0s8 slicesBy_S14336_S1792_0s8 0#32 rfl))
    (t 1 (by decide) slicesBy_S128x1x14336_S128x1x1792_0s1_0s1_1s8 slicesBy_S14336_S1792_1s8 4#32 rfl))
    (t 2 (by decide) slicesBy_S128x1x14336_S128x1x1792_0s1_0s1_2s8 slicesBy_S14336_S1792_2s8 8#32 rfl))
    (t 3 (by decide) slicesBy_S128x1x14336_S128x1x1792_0s1_0s1_3s8 slicesBy_S14336_S1792_3s8 12#32 rfl))
    (t 4 (by decide) slicesBy_S128x1x14336_S128x1x1792_0s1_0s1_4s8 slicesBy_S14336_S1792_4s8 16#32 rfl))
    (t 5 (by decide) slicesBy_S128x1x14336_S128x1x1792_0s1_0s1_5s8 slicesBy_S14336_S1792_5s8 20#32 rfl))
    (t 6 (by decide) slicesBy_S128x1x14336_S128x1x1792_0s1_0s1_6s8 slicesBy_S14336_S1792_6s8 24#32 rfl))
    (t 7 (by decide) slicesBy_S128x1x14336_S128x1x1792_0s1_0s1_7s8 slicesBy_S14336_S1792_7s8 28#32 rfl)

end Whole

end Cert.Proof.ValRef

end
-- ==== Proof.Value.lean ====
/- The two programs compute the same result: the kernel's run and the reference's, read at an element. -/
module

public import proofs.«01_k».proof.Proof.ValLaunch
public import proofs.«01_k».proof.Proof.ValRef
public import proofs.«01_k».proof.Proof.Pre
public import Idealize.ShloMosaic.Lib.Claim

@[expose] public section

noncomputable section

namespace Cert.Proof.Val

open Cert.KernelIdeal Cert.KernelIdeal.Gen
open Idealize.ShloMosaic Idealize.ShloMosaic.TcCoe
open Idealize.SL.Sem
open Cert.Proof.KernelIdealFrame

variable (m : (ℓ : Loc nD τ sig) → Buf (Elt Ideal) ℓ) (ρ : Dev nD → PrngReg)

/-- A reshaped batch of rows, read at an element. -/
theorem batchRows_at (x : S128x1x14336.Idx → EReal) (b : Fin 128) (i : Fin 14336) :
    shapeCast S128x14336 x shapeCasts_S128x1x14336_S128x14336 (ix2 b i) = x (ix3 b 0 i) := by
  pointwise

/-- The activations as a matrix are the activations. -/
theorem opX_at (c : Dev nD) (b : Fin 128) (i : Fin 14336) :
    opX m c (ix2 b i) = (m ((c.tc : Thread nD τ).loc main_arg0) : S128x1x14336.Idx → EReal) (ix3 b 0 i) := by
  have e : opX m c = shapeCast S128x14336 (m ((c.tc : Thread nD τ).loc main_arg0) : S128x1x14336.Idx → EReal) shapeCasts_S128x1x14336_S128x14336 := by
    show StableHlo.after ([hostOps0 (F := Ideal)].flatten) (fun b => m (c, b)) (Proc.devRef .tc main_v0) = _
    simp only [hostOps0, List.flatten_cons, List.flatten_nil, List.append_nil]
    after_results_simp
    rfl
  rw [e]
  exact batchRows_at _ b i

/-- The result, as the program returns it. -/
def out (hG : GroupsOK m) (c : Dev nD) : S128x1x3584.Idx → EReal := shapeCast S128x1x3584 (res1 m hG c) shapeCasts_S128x3584_S128x1x3584

theorem out_at (hG : GroupsOK m) (c : Dev nD) (b : Fin 128) (o : Fin 3584) :
    out m hG c (ix3 b 0 o) = result (opX m c) (opQ m c) (opS m c) (opZ m c) (grp m hG) b o := by
  have e : out m hG c (ix3 b 0 o) = res1 m hG c (ix2 b o) := by
    unfold out
    pointwise
  rw [e]
  rfl

/-- The program runs and ends with the result, its arguments unchanged. -/
theorem value (hG : GroupsOK m) (hx : ∀ (c : Dev nD) y, ∃ r : ℝ, (m ((c.tc : Thread nD τ).loc main_arg0) : S128x1x14336.Idx → EReal) y = (r : EReal))
    (hs : ∀ (c : Dev nD) y, ∃ r : ℝ, (m ((c.tc : Thread nD τ).loc main_arg2) : S112x3584.Idx → EReal) y = (r : EReal)) :
    θ_run (defs (F := Ideal)) (onTc (τ := τ) (main (F := Ideal))) ⟨m, fun _ => 0, ρ⟩ (fun r => ∀ c : Dev nD,
      r.2.mem ((c.tc : Thread nD τ).loc main_v2) = out m hG c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  choose xr hxr using hx
  choose sr hsr using hs
  have hX : ∀ c b i, opX m c (ix2 b i) = ((xr c (ix3 b 0 i) : ℝ) : EReal) := fun c b i => (opX_at m c b i).trans (hxr c _)
  have hS : ∀ c g o, opS m c (ix2 g o) = ((sr c (ix2 g o) : ℝ) : EReal) := fun c g o =>
    (congrFun (show opS m c = m ((c.tc : Thread nD τ).loc main_arg2) from V_arg2 m c) _).trans (hsr c _)
  have h := runV m ρ hG (res1 m hG) (res1_at m hG) (fun c b i => xr c (ix3 b 0 i)) hX (fun c g o => sr c (ix2 g o)) hS
  have keep : ∀ (c : Dev nD) (b : Ref sig .tc), b ∉ ({main_v2} : Finset (Ref sig .tc)) → (∀ w, Pipeline.arrRef spec0 w ≠ b) →
      Pipeline.afterTail (pcfgs (F := Ideal)) (adm m) (fun _ => dat m hG (res1 m hG)) 0 (V₀ m) [hostOps1 (F := Ideal)] c b = V₀ m c (Proc.devRef .tc b) := by
    intro c b hb hw
    unfold Pipeline.afterTail
    rw [StableHlo.after_of_forall_not_mem _ _ fun op hop hbw => ?_, Pipeline.withArrays_of_ne _ c (V₀ m c) _ _ hw]
    obtain ⟨ops, hops, hop'⟩ := List.mem_flatten.mp hop
    exact hb (sfx_writes ops hops op hop' b hbw)
  have hv2 : ∀ c : Dev nD, Pipeline.afterTail (pcfgs (F := Ideal)) (adm m) (fun _ => dat m hG (res1 m hG)) 0 (V₀ m) [hostOps1 (F := Ideal)] c main_v2 = out m hG c := by
    intro c
    have e4 := Pipeline.withArrays_arr (Val := Elt Ideal) spec0 (Gen.launch0 (F := Ideal)).win.arr_inj c (V₀ m c) (fun w => (dat m hG (res1 m hG) c).arrAt w (cfgM m).N) 4
    rw [final4 m hG (res1 m hG) c] at e4
    unfold Pipeline.afterTail
    simp only [hostOps1, List.flatten_cons, List.flatten_nil, List.append_nil]
    after_results_simp
    exact congrArg (fun x : S128x3584.Idx → EReal => shapeCast S128x1x3584 x shapeCasts_S128x3584_S128x1x3584) e4
  refine (θ_run defs _ _).mono (fun r h c => ?_) h
  obtain ⟨ha, hb⟩ := h.1 c
  refine ⟨(hb main_v2 (by decide : main_v2 ∈ Pipeline.restRefs sig spec0)).trans (hv2 c),
    (hb main_arg0 (by decide : main_arg0 ∈ Pipeline.restRefs sig spec0)).trans ((keep c main_arg0 (by decide) (by decide)).trans (V_arg0 m c)),
    (ha 1).trans (((dat m hG (res1 m hG) c).arrAt_in 1 rfl _).trans (V_arg1 m c)),
    (ha 2).trans (((dat m hG (res1 m hG) c).arrAt_in 2 rfl _).trans (V_arg2 m c)),
    (ha 3).trans (((dat m hG (res1 m hG) c).arrAt_in 3 rfl _).trans (V_arg3 m c)),
    (hb main_arg4 (by decide : main_arg4 ∈ Pipeline.restRefs sig spec0)).trans ((keep c main_arg4 (by decide) (by decide)).trans (V_arg4 m c))⟩

/-- The reference's result is the kernel's. -/
theorem ref_eq (hG : GroupsOK m) (c : Dev nD) (V0 : Valuation Cert.ReferenceIdeal.τ Cert.ReferenceIdeal.sig (Elt Ideal))
    (h0 : ValRef.inX V0 = m ((c.tc : Thread nD τ).loc main_arg0)) (h1 : ValRef.inQ V0 = m ((c.tc : Thread nD τ).loc main_arg1))
    (h2 : ValRef.inS V0 = m ((c.tc : Thread nD τ).loc main_arg2)) (h3 : ValRef.inZ V0 = m ((c.tc : Thread nD τ).loc main_arg3))
    (h4 : ValRef.inG V0 = m ((c.tc : Thread nD τ).loc main_arg4)) :
    (truncf .bf16 (Cert.ReferenceIdeal.Value.res_main_v205 V0) Cert.ReferenceIdeal.Gen.bitsLt_bf16_f32 : S128x1x3584.Idx → EReal) = out m hG c := by
  funext y
  obtain ⟨b, o, rfl⟩ : ∃ (b : Fin 128) (o : Fin 3584), y = ix3 b 0 o := ⟨y 0, y 2, by
    funext a
    match a with
    | ⟨0, _⟩ => rfl
    | ⟨1, _⟩ => exact Subsingleton.elim (α := Fin 1) _ _
    | ⟨2, _⟩ => rfl⟩
  obtain rfl : c = 0 := Subsingleton.elim _ _
  refine (ValRef.ref_at V0 (grp m hG) (fun n => by rw [h4]; rfl) b o).trans ?_
  rw [out_at]
  unfold result ValRef.prod
  refine Finset.sum_congr rfl fun i _ => ?_
  rw [opX_at, h0, h1, h2, h3, show opQ m 0 = m (((0 : Dev nD).tc : Thread nD τ).loc main_arg1) from V_arg1 m 0,
    show opS m 0 = m (((0 : Dev nD).tc : Thread nD τ).loc main_arg2) from V_arg2 m 0, show opZ m 0 = m (((0 : Dev nD).tc : Thread nD τ).loc main_arg3) from V_arg3 m 0]

end Cert.Proof.Val

end
-- ==== Proof.Algebraic.lean ====
/- The value claim: from the same arguments the idealized kernel and the idealized reference end with the same result. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Value

@[expose] public section

noncomputable section

namespace Cert.Proof

open Idealize.ShloMosaic Idealize.ShloMosaic.TcCoe Idealize.SL.Sem

/-- The idealized kernel computes what the idealized reference computes. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c => Cert.Proof.Pre.finite_facts _ _ _ _ _ (hpre c)
  have hG : Cert.Proof.KernelIdealFrame.GroupsOK m := fun c y => (hf c).1 y
  refine ⟨fun c => Cert.Proof.Val.out m hG c, Cert.Proof.Val.value m g hG (fun c y => (hf c).2.1 y) (fun c y => (hf c).2.2 y), ?_⟩
  refine (θ_run Cert.ReferenceIdeal.defs _ _).mono (fun r h c => ⟨(h c).1.trans ?_, (h c).2⟩) (Cert.ReferenceIdeal.Value.run m' g')
  obtain ⟨h0, h1, h2, h3, h4⟩ := hargs c
  exact Cert.Proof.Val.ref_eq m hG c _ h0 h1 h2 h3 h4

end Cert.Proof

end
-- ==== Proof.lean ====
/- The certificate of the kernel: its claims, each from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_groups
public import proofs.«01_k».proof.Proof.Gen.Pre_finite
public import proofs.«01_k».proof.Proof.FrameK
public import proofs.«01_k».proof.Proof.FrameKI
public import proofs.«01_k».proof.Proof.LaunchK
public import proofs.«01_k».proof.Proof.LaunchKI
public import proofs.«01_k».proof.Proof.FrameR
public import proofs.«01_k».proof.Proof.Pre
public import proofs.«01_k».proof.Proof.Algebraic
public import Idealize.ShloMosaic.Lib.Bf16Pair
public import Idealize.ShloMosaic.Lib.Bf16PairInverse

@[expose] public section

noncomputable section

namespace Cert.Proof

open Idealize.ShloMosaic

/-- The kernel runs when every word of the group table names a group. -/
theorem frame_kernel : Cert.quiescent_Kernel (hKernel := Cert.Kernel.Gen.facts) (hPre_groups := Cert.Pre_groups.Gen.facts) := fun m g hpre =>
  Cert.Proof.KernelFrame.frame m g fun c y => Cert.Proof.Pre.groups_lt (F := Bits) _ _ _ _ _ (hpre c) y

/-- So does its idealization. -/
theorem frame_kernelIdeal : Cert.quiescent_KernelIdeal (hKernelIdeal := Cert.KernelIdeal.Gen.facts) (hPre_groups := Cert.Pre_groups.Gen.facts) := fun m g hpre =>
  Cert.Proof.KernelIdealFrame.frame m g fun c y => Cert.Proof.Pre.groups_lt (F := Ideal) _ _ _ _ _ (hpre c) y

/-- So it does under the value claim's precondition, which says the same of the group table. -/
theorem frame_kernelIdeal_finite : Cert.quiescent_KernelIdeal_pre_finite (hKernelIdeal := Cert.KernelIdeal.Gen.facts) (hPre_finite := Cert.Pre_finite.Gen.facts) := fun m g hpre =>
  Cert.Proof.KernelIdealFrame.frame m g fun c y => (Cert.Proof.Pre.finite_facts _ _ _ _ _ (hpre c)).1 y

/-- Each rule the idealization used preserves what the kernel computes. -/
theorem preserves : Cert.preserves_Kernel_KernelIdeal :=
  ⟨IdealRules.bf16_pair.bufferStatement _ _, IdealRules.bf16_pair.bufferStatement _ _, IdealRules.bf16_pair.halfStatement _,
    IdealRules.bf16_pair.statement _ _, IdealRules.bf16_pair.halfStatement _, IdealRules.bf16_pair.statement _ _,
    IdealRules.bf16_pair.statement _ _, IdealRules.bf16_pair.statement _ _, IdealRules.bf16_pair.statement _ _,
    IdealRules.truncf_extf.statement _ _ _, IdealRules.truncf_extf.statement _ _ _⟩

theorem claim : Cert.Claim := ⟨Cert.Kernel.Gen.facts, Cert.KernelIdeal.Gen.facts, Cert.ReferenceIdeal.Gen.facts, Cert.Pre_groups.Gen.facts,
  Cert.Pre_finite.Gen.facts, frame_kernel, frame_kernelIdeal, frame_kernelIdeal_finite, fun m g _ => frame_reference m g,
  fun m g _ => frame_reference m g, preserves, algebraic⟩

end Cert.Proof

end
